-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x325x12x64 : Shape := ⟨4, ![48, 325, 12, 64]⟩
abbrev S48x12x325x325 : Shape := ⟨4, ![48, 12, 325, 325]⟩
abbrev S12 : Shape := ⟨1, ![12]⟩
abbrev S48x12x64 : Shape := ⟨3, ![48, 12, 64]⟩
abbrev S12x325x48x325 : Shape := ⟨4, ![12, 325, 48, 325]⟩
abbrev S12x48x64 : Shape := ⟨3, ![12, 48, 64]⟩
abbrev S48x12x64x325 : Shape := ⟨4, ![48, 12, 64, 325]⟩
abbrev S8x1x64x325 : Shape := ⟨4, ![8, 1, 64, 325]⟩
abbrev S1x336x8x128 : Shape := ⟨4, ![1, 336, 8, 128]⟩
abbrev S1x8x64 : Shape := ⟨3, ![1, 8, 64]⟩
abbrev S1 : Shape := ⟨1, ![1]⟩
abbrev S1x336x2x128 : Shape := ⟨4, ![1, 336, 2, 128]⟩
abbrev S1x128 : Shape := ⟨2, ![1, 128]⟩
abbrev S336x1 : Shape := ⟨2, ![336, 1]⟩
abbrev S1x1x64x325 : Shape := ⟨4, ![1, 1, 64, 325]⟩
abbrev S64x325 : Shape := ⟨2, ![64, 325]⟩
abbrev S64x59 : Shape := ⟨2, ![64, 59]⟩
abbrev S64x384 : Shape := ⟨2, ![64, 384]⟩
abbrev S1x1x64 : Shape := ⟨3, ![1, 1, 64]⟩
abbrev S1x64 : Shape := ⟨2, ![1, 64]⟩
abbrev S64x1 : Shape := ⟨2, ![64, 1]⟩
abbrev S64x336 : Shape := ⟨2, ![64, 336]⟩
abbrev S336x384 : Shape := ⟨2, ![336, 384]⟩
abbrev S1x336x1x128 : Shape := ⟨4, ![1, 336, 1, 128]⟩
abbrev S336x128 : Shape := ⟨2, ![336, 128]⟩
abbrev S336 : Shape := ⟨1, ![336]⟩

abbrev nBuf : Space → Nat
  | .hbm => 19
  | .vmem => 22
  | .smem => 1
  | _ => 0

abbrev bufTy : (tb : Table) → Fin (tcTables nBuf tb) → BufTy
  | .hbm, ⟨0, _⟩ => ⟨S48x325x12x64, .bf16⟩
  | .hbm, ⟨1, _⟩ => ⟨S48x325x12x64, .bf16⟩
  | .hbm, ⟨2, _⟩ => ⟨S48x12x325x325, .i8⟩
  | .hbm, ⟨3, _⟩ => ⟨S12, .f32⟩
  | .hbm, ⟨4, _⟩ => ⟨S48x325x12x64, .fp8e4m3⟩
  | .hbm, ⟨5, _⟩ => ⟨S48x12x64, .f32⟩
  | .hbm, ⟨6, _⟩ => ⟨S48x325x12x64, .bf16⟩
  | .hbm, ⟨7, _⟩ => ⟨S12x325x48x325, .i8⟩
  | .hbm, ⟨8, _⟩ => ⟨S12x48x64, .f32⟩
  | .hbm, ⟨9, _⟩ => ⟨S48x12x64x325, .bf16⟩
  | .hbm, ⟨10, _⟩ => ⟨S48x12x64x325, .bf16⟩
  | .hbm, ⟨11, _⟩ => ⟨S48x12x64x325, .fp8e4m3⟩
  | .hbm, ⟨12, _⟩ => ⟨S48x12x64x325, .bf16⟩
  | .hbm, ⟨13, _⟩ => ⟨S48x12x64x325, .bf16⟩
  | .hbm, ⟨14, _⟩ => ⟨S48x12x64x325, .bf16⟩
  | .hbm, ⟨15, _⟩ => ⟨S48x12x64x325, .bf16⟩
  | .hbm, ⟨16, _⟩ => ⟨S48x325x12x64, .bf16⟩
  | .hbm, ⟨17, _⟩ => ⟨S48x325x12x64, .bf16⟩
  | .hbm, ⟨18, _⟩ => ⟨S48x325x12x64, .bf16⟩
  | .local _ .vmem, ⟨0, _⟩ => ⟨S8x1x64x325, .bf16⟩
  | .local _ .vmem, ⟨1, _⟩ => ⟨S8x1x64x325, .bf16⟩
  | .local _ .vmem, ⟨2, _⟩ => ⟨S8x1x64x325, .bf16⟩
  | .local _ .vmem, ⟨3, _⟩ => ⟨S8x1x64x325, .bf16⟩
  | .local _ .vmem, ⟨4, _⟩ => ⟨S1x336x8x128, .i8⟩
  | .local _ .vmem, ⟨5, _⟩ => ⟨S1x336x8x128, .i8⟩
  | .local _ .vmem, ⟨6, _⟩ => ⟨S1x336x8x128, .i8⟩
  | .local _ .vmem, ⟨7, _⟩ => ⟨S1x336x8x128, .i8⟩
  | .local _ .vmem, ⟨8, _⟩ => ⟨S1x336x8x128, .i8⟩
  | .local _ .vmem, ⟨9, _⟩ => ⟨S1x336x8x128, .i8⟩
  | .local _ .vmem, ⟨10, _⟩ => ⟨S8x1x64x325, .fp8e4m3⟩
  | .local _ .vmem, ⟨11, _⟩ => ⟨S8x1x64x325, .fp8e4m3⟩
  | .local _ .vmem, ⟨12, _⟩ => ⟨S1x8x64, .f32⟩
  | .local _ .vmem, ⟨13, _⟩ => ⟨S1x8x64, .f32⟩
  | .local _ .vmem, ⟨14, _⟩ => ⟨S8x1x64x325, .bf16⟩
  | .local _ .vmem, ⟨15, _⟩ => ⟨S8x1x64x325, .bf16⟩
  | .local _ .vmem, ⟨16, _⟩ => ⟨S8x1x64x325, .bf16⟩
  | .local _ .vmem, ⟨17, _⟩ => ⟨S8x1x64x325, .bf16⟩
  | .local _ .vmem, ⟨18, _⟩ => ⟨S8x1x64x325, .bf16⟩
  | .local _ .vmem, ⟨19, _⟩ => ⟨S8x1x64x325, .bf16⟩
  | .local _ .vmem, ⟨20, _⟩ => ⟨S8x1x64x325, .bf16⟩
  | .local _ .vmem, ⟨21, _⟩ => ⟨S8x1x64x325, .bf16⟩
  | .local _ .smem, ⟨0, _⟩ => ⟨S12, .f32⟩
  | _, _ => ⟨S48x325x12x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![12, 6], ![false, false]⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, arg1.toNat, c1_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, arg1.toNat, c2_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S8x1x64x325 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x64x325 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x336x8x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x336x8x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x336x8x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1x64x325 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x1x64x325 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x1x64x325 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x1x64x325 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x1x64x325 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S48x325x12x64 : Shape := ⟨4, ![48, 325, 12, 64]⟩
abbrev S48x12x325x325 : Shape := ⟨4, ![48, 12, 325, 325]⟩
abbrev S12 : Shape := ⟨1, ![12]⟩
abbrev S48x12x64 : Shape := ⟨3, ![48, 12, 64]⟩
abbrev S1x12x1x1 : Shape := ⟨4, ![1, 12, 1, 1]⟩
abbrev S48x12x64x325 : Shape := ⟨4, ![48, 12, 64, 325]⟩
abbrev S1x1x12x1 : Shape := ⟨4, ![1, 1, 12, 1]⟩
abbrev S48x1x12x64 : Shape := ⟨4, ![48, 1, 12, 64]⟩
abbrev S_ : Shape := ⟨0, ![]⟩
abbrev S48x12x325 : Shape := ⟨3, ![48, 12, 325]⟩
abbrev S48x12x325x1 : Shape := ⟨4, ![48, 12, 325, 1]⟩

abbrev nBuf : Space → Nat
  | .hbm => 44
  | .vmem => 5
  | .smem => 0
  | _ => 0

abbrev bufTy : (tb : Table) → Fin (tcTables nBuf tb) → BufTy
  | .hbm, ⟨0, _⟩ => ⟨S48x325x12x64, .bf16⟩
  | .hbm, ⟨1, _⟩ => ⟨S48x325x12x64, .bf16⟩
  | .hbm, ⟨2, _⟩ => ⟨S48x12x325x325, .i8⟩
  | .hbm, ⟨3, _⟩ => ⟨S12, .f32⟩
  | .hbm, ⟨4, _⟩ => ⟨S48x325x12x64, .fp8e4m3⟩
  | .hbm, ⟨5, _⟩ => ⟨S48x12x64, .f32⟩
  | .hbm, ⟨6, _⟩ => ⟨S48x325x12x64, .bf16⟩
  | .hbm, ⟨7, _⟩ => ⟨S48x12x325x325, .f32⟩
  | .hbm, ⟨8, _⟩ => ⟨S48x12x325x325, .bf16⟩
  | .hbm, ⟨9, _⟩ => ⟨S48x325x12x64, .bf16⟩
  | .hbm, ⟨10, _⟩ => ⟨S1x12x1x1, .f32⟩
  | .hbm, ⟨11, _⟩ => ⟨S48x12x325x325, .f32⟩
  | .hbm, ⟨12, _⟩ => ⟨S48x12x325x325, .f32⟩
  | .hbm, ⟨13, _⟩ => ⟨S48x12x64x325, .f32⟩
  | .hbm, ⟨14, _⟩ => ⟨S48x325x12x64, .f32⟩
  | .hbm, ⟨15, _⟩ => ⟨S1x1x12x1, .f32⟩
  | .hbm, ⟨16, _⟩ => ⟨S48x325x12x64, .f32⟩
  | .hbm, ⟨17, _⟩ => ⟨S48x325x12x64, .f32⟩
  | .hbm, ⟨18, _⟩ => ⟨S48x12x64, .bf16⟩
  | .hbm, ⟨19, _⟩ => ⟨S48x1x12x64, .bf16⟩
  | .hbm, ⟨20, _⟩ => ⟨S48x325x12x64, .bf16⟩
  | .hbm, ⟨21, _⟩ => ⟨S48x325x12x64, .bf16⟩
  | .hbm, ⟨22, _⟩ => ⟨S48x12x325x325, .f32⟩
  | .hbm, ⟨23, _⟩ => ⟨S48x12x325x325, .f32⟩
  | .hbm, ⟨24, _⟩ => ⟨S_, .f32⟩
  | .hbm, ⟨25, _⟩ => ⟨S48x12x325, .f32⟩
  | .hbm, ⟨26, _⟩ => ⟨S48x12x325x1, .f32⟩
  | .hbm, ⟨27, _⟩ => ⟨S48x12x325x325, .f32⟩
  | .hbm, ⟨28, _⟩ => ⟨S48x12x325x325, .f32⟩
  | .hbm, ⟨29, _⟩ => ⟨S48x12x325x325, .f32⟩
  | .hbm, ⟨30, _⟩ => ⟨S48x12x325x325, .bf16⟩
  | .hbm, ⟨31, _⟩ => ⟨S48x12x64x325, .f32⟩
  | .hbm, ⟨32, _⟩ => ⟨S48x325x12x64, .f32⟩
  | .hbm, ⟨33, _⟩ => ⟨S_, .f32⟩
  | .hbm, ⟨34, _⟩ => ⟨S48x325x12x64, .f32⟩
  | .hbm, ⟨35, _⟩ => ⟨S48x325x12x64, .f32⟩
  | .hbm, ⟨36, _⟩ => ⟨S48x12x64x325, .f32⟩
  | .hbm, ⟨37, _⟩ => ⟨S48x325x12x64, .f32⟩
  | .hbm, ⟨38, _⟩ => ⟨S_, .f32⟩
  | .hbm, ⟨39, _⟩ => ⟨S48x325x12x64, .f32⟩
  | .hbm, ⟨40, _⟩ => ⟨S48x325x12x64, .f32⟩
  | .hbm, ⟨41, _⟩ => ⟨S48x325x12x64, .bf16⟩
  | .hbm, ⟨42, _⟩ => ⟨S48x325x12x64, .bf16⟩
  | .hbm, ⟨43, _⟩ => ⟨S48x325x12x64, .bf16⟩
  | .local _ .vmem, ⟨0, _⟩ => ⟨S48x12x325x325, .i8⟩
  | .local _ .vmem, ⟨1, _⟩ => ⟨S48x325x12x64, .fp8e4m3⟩
  | .local _ .vmem, ⟨2, _⟩ => ⟨S48x12x325x325, .f32⟩
  | .local _ .vmem, ⟨3, _⟩ => ⟨S48x12x325x325, .bf16⟩
  | .local _ .vmem, ⟨4, _⟩ => ⟨S48x325x12x64, .bf16⟩
  | _, _ => ⟨S48x325x12x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S48x12x325x325 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x325x12x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x12x325x325 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x12x325x325 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x325x12x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.ImgK.lean ====
/- WHAT THE BODY COMPUTES FOR ONE IMAGE of its group of eight, as functions of what it loads: the codes cut out of the
   packed words and masked, the padded operands, the four products, and the three blocks stored. -/
module

public import proofs.«01_k».proof.Proof.Gen.Kernel.Skeleton

@[expose] public section

noncomputable section

namespace Cert.Kernel.Img

open Cert.Kernel Cert.Kernel.Gen Idealize.ShloMosaic Idealize.SL.Sem

variable {F : FTy → Type} [FloatOps F]

/-- The words of a tile of codes that hold images 0 to 3: rows of the tile by lanes. -/
def word0 (x : Vec F S1x336x8x128 .i8) : IVec S336x128 32 :=
  shapeCast S336x128 (extractStridedSlice S1x336x1x128 ![0, 0, 0, 0] (bitcast S1x336x2x128 32 (shapeCast S1x336x8x128 (show IVec S1x336x8x128 8 from x) shapeCasts_S1x336x8x128_S1x336x8x128) bitcasts_S1x336x8x128_w8_S1x336x2x128_w32) slices_S1x336x2x128_o0_0_0_0_S1x336x1x128) shapeCasts_S1x336x1x128_S336x128

/-- The words of a tile of codes that hold images 4 to 7. -/
def word1 (x : Vec F S1x336x8x128 .i8) : IVec S336x128 32 :=
  shapeCast S336x128 (extractStridedSlice S1x336x1x128 ![0, 0, 1, 0] (bitcast S1x336x2x128 32 (shapeCast S1x336x8x128 (show IVec S1x336x8x128 8 from x) shapeCasts_S1x336x8x128_S1x336x8x128) bitcasts_S1x336x8x128_w8_S1x336x2x128_w32) slices_S1x336x2x128_o0_0_1_0_S1x336x1x128) shapeCasts_S1x336x1x128_S336x128

/-- One signed byte of each word (`sh` shifts it to the top), zero on the rows past the sequence. -/
def code (w : IVec S336x128 32) (sh : BitVec 32) : IVec S336x128 32 :=
  select (broadcastTo S336x128 (shapeCast S336x1 k0_pay5 shapeCasts_S336x1_S336x1) broadcasts_S336x1_S336x128)
    (shrsi (shli w (broadcast S336x128 sh)) (broadcast S336x128 24#32)) (broadcast S336x128 0#32)

/-- The same on the last tile, zero also on the lanes past the sequence. -/
def codeTail (w : IVec S336x128 32) (sh : BitVec 32) : IVec S336x128 32 :=
  select (broadcastTo S336x128 (shapeCast S1x128 k0_pay4 shapeCasts_S1x128_S1x128) broadcasts_S1x128_S336x128)
    (code w sh) (broadcast S336x128 0#32)

/-- An operand padded with zeros from 325 to 384 lanes. -/
def pad (x : FVec F S64x325 .bf16) : FVec F S64x384 .bf16 :=
  concatenate S64x384 1 [⟨S64x325, x⟩, ⟨S64x59, broadcast S64x59 (Scalar.ofBits .bf16 0x0000#16)⟩] concatenates_S64x325_S64x59_S64x384_d1

/-- A loaded block as a matrix. -/
def mat {φ : FTy} (x : FVec F S1x1x64x325 φ) : FVec F S64x325 φ := shapeCast S64x325 x shapeCasts_S1x1x64x325_S64x325

/-- The values of one image: codes times scales. -/
def vals (v : Vec F S1x1x64x325 .fp8e4m3) (vs : Vec F S1x1x64 .f32) : FVec F S64x325 .bf16 :=
  mulf (extf .bf16 (mat (φ := .fp8e4m3) v) bitsLt_fp8e4m3_bf16)
    (broadcastTo S64x325 (truncf .bf16 (transpose S64x1 [1, 0] (shapeCast S1x64 (show FVec F S1x1x64 .f32 from vs) shapeCasts_S1x1x64_S1x64) transposes_S1x64_p1_0_S64x1) bitsLt_bf16_f32) broadcasts_S64x1_S64x325)

/-- The gradient of the probabilities: rows (padded to 336) by columns (padded to 384). -/
def dp (d : Vec F S1x1x64x325 .bf16) (v : Vec F S1x1x64x325 .fp8e4m3) (vs : Vec F S1x1x64 .f32) : FVec F S336x384 .f32 :=
  matmul dot_S64x336_S64x384_S336x384_0_0_1_1_n_n none
    (extractStridedSlice S64x336 ![0, 0] (pad (mat (φ := .bf16) d)) slices_S64x384_o0_0_S64x336) (pad (vals v vs))
    (constant S336x384 .f32 0x00000000#32)

/-- The three column tiles of the gradient of the probabilities. -/
def dp0 (x : FVec F S336x384 .f32) : FVec F S336x128 .f32 := extractStridedSlice S336x128 ![0, 0] x slices_S336x384_o0_0_S336x128
/-- Its middle tile of columns. -/
def dp1 (x : FVec F S336x384 .f32) : FVec F S336x128 .f32 := extractStridedSlice S336x128 ![0, 128] x slices_S336x384_o0_128_S336x128
/-- Its last tile of columns. -/
def dp2 (x : FVec F S336x384 .f32) : FVec F S336x128 .f32 := extractStridedSlice S336x128 ![0, 256] x slices_S336x384_o0_256_S336x128

/-- A tile of probabilities: codes times the head's scale. -/
def prob (ps : Elt F .f32) (c : IVec S336x128 32) : FVec F S336x128 .f32 :=
  mulf (sitofp .f32 c) (broadcast S336x128 (show F .f32 from ps))

/-- A tile of codes at the products' width. -/
def codeB (c : IVec S336x128 32) : FVec F S336x128 .bf16 := truncf .bf16 (sitofp .f32 c : FVec F S336x128 .f32) bitsLt_bf16_f32

/-- Each row's sum of gradient times probability, as a column. -/
def rowSum (x : FVec F S336x384 .f32) (p0 p1 p2 : FVec F S336x128 .f32) : FVec F S336x1 .f32 :=
  shapeCast S336x1 (multiReduction .add [1] S336 (addf (addf (mulf (dp0 x) p0) (mulf (dp1 x) p1)) (mulf (dp2 x) p2)) 0x00000000#32 reduces_S336x128_S336 (.inl rfl) rfl) shapeCasts_S336_S336x1

/-- A tile of the gradient of the scores. -/
def dsTile (p y : FVec F S336x128 .f32) (s : FVec F S336x1 .f32) : FVec F S336x128 .bf16 :=
  truncf .bf16 (mulf p (subf y (broadcastTo S336x128 s broadcasts_S336x1_S336x128))) bitsLt_bf16_f32

/-- Three tiles side by side. -/
def cat (a b c : FVec F S336x128 .bf16) : FVec F S336x384 .bf16 :=
  concatenate S336x384 1 [⟨S336x128, a⟩, ⟨S336x128, b⟩, ⟨S336x128, c⟩] concatenates_S336x128_S336x128_S336x128_S336x384_d1

/-- The gradient of the scores of one image. -/
def ds (ps : Elt F .f32) (c0 c1 c2 : IVec S336x128 32) (x : FVec F S336x384 .f32) : FVec F S336x384 .bf16 :=
  cat (dsTile (prob ps c0) (dp0 x) (rowSum x (prob ps c0) (prob ps c1) (prob ps c2)))
    (dsTile (prob ps c1) (dp1 x) (rowSum x (prob ps c0) (prob ps c1) (prob ps c2)))
    (dsTile (prob ps c2) (dp2 x) (rowSum x (prob ps c0) (prob ps c1) (prob ps c2)))

/-- A stored block: a matrix rounded. -/
def store (x : FVec F S64x325 .f32) : FVec F S1x1x64x325 .bf16 :=
  shapeCast S1x1x64x325 (truncf .bf16 x bitsLt_bf16_f32) shapeCasts_S64x325_S1x1x64x325

/-- One image's block of the gradient of the queries. -/
def dq (ps : Elt F .f32) (c0 c1 c2 : IVec S336x128 32) (k d : Vec F S1x1x64x325 .bf16) (v : Vec F S1x1x64x325 .fp8e4m3) (vs : Vec F S1x1x64 .f32) : FVec F S1x1x64x325 .bf16 :=
  store (extractStridedSlice S64x325 ![0, 0]
    (mulf (matmul dot_S64x384_S336x384_S64x336_1_1_0_0_n_n none (pad (mat (φ := .bf16) k)) (ds ps c0 c1 c2 (dp d v vs)) (constant S64x336 .f32 0x00000000#32))
      (broadcast S64x336 (Scalar.ofBits .f32 0x3E000000#32))) slices_S64x336_o0_0_S64x325)

/-- One image's block of the gradient of the keys. -/
def dk (ps : Elt F .f32) (c0 c1 c2 : IVec S336x128 32) (q d : Vec F S1x1x64x325 .bf16) (v : Vec F S1x1x64x325 .fp8e4m3) (vs : Vec F S1x1x64 .f32) : FVec F S1x1x64x325 .bf16 :=
  store (extractStridedSlice S64x325 ![0, 0]
    (mulf (matmul dot_S64x336_S336x384_S64x384_1_0_0_1_n_n none (extractStridedSlice S64x336 ![0, 0] (pad (mat (φ := .bf16) q)) slices_S64x384_o0_0_S64x336) (ds ps c0 c1 c2 (dp d v vs)) (constant S64x384 .f32 0x00000000#32))
      (broadcast S64x384 (Scalar.ofBits .f32 0x3E000000#32))) slices_S64x384_o0_0_S64x325)

/-- One image's block of the gradient of the values. -/
def dv (ps : Elt F .f32) (c0 c1 c2 : IVec S336x128 32) (d : Vec F S1x1x64x325 .bf16) : FVec F S1x1x64x325 .bf16 :=
  store (extractStridedSlice S64x325 ![0, 0]
    (mulf (matmul dot_S64x336_S336x384_S64x384_1_0_0_1_n_n none (extractStridedSlice S64x336 ![0, 0] (pad (mat (φ := .bf16) d)) slices_S64x384_o0_0_S64x336) (cat (codeB c0) (codeB c1) (codeB c2)) (constant S64x384 .f32 0x00000000#32))
      (broadcast S64x384 (show F .f32 from ps))) slices_S64x384_o0_0_S64x325)

end Cert.Kernel.Img

end
-- ==== Proof.RunK.lean ====
/- THE BODY'S RUN. On whole staging memrefs — the inputs' at given contents, the outputs' at anything — the kernel's body
   runs to the end and leaves the inputs as they were and each output's buffer with a list of pieces written to it. The
   pieces are the witness that the run finds (`kernelRun0_A`). -/
module

public import proofs.«01_k».proof.Proof.Gen.Kernel.Frame
public import proofs.«01_k».proof.Proof.ImgK

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .smem S12 .f32) (harg2 : arg2.IsWhole) (arg3 : Memref sig .tc .vmem S8x1x64x325 .bf16) (harg3 : arg3.IsWhole) (arg4 : Memref sig .tc .vmem S8x1x64x325 .bf16) (harg4 : arg4.IsWhole) (arg5 : Memref sig .tc .vmem S1x336x8x128 .i8) (harg5 : arg5.IsWhole) (arg6 : Memref sig .tc .vmem S1x336x8x128 .i8) (harg6 : arg6.IsWhole) (arg7 : Memref sig .tc .vmem S1x336x8x128 .i8) (harg7 : arg7.IsWhole) (arg8 : Memref sig .tc .vmem S8x1x64x325 .fp8e4m3) (harg8 : arg8.IsWhole) (arg9 : Memref sig .tc .vmem S1x8x64 .f32) (harg9 : arg9.IsWhole) (arg10 : Memref sig .tc .vmem S8x1x64x325 .bf16) (harg10 : arg10.IsWhole) (arg11 : Memref sig .tc .vmem S8x1x64x325 .bf16) (harg11 : arg11.IsWhole) (arg12 : Memref sig .tc .vmem S8x1x64x325 .bf16) (harg12 : arg12.IsWhole) (arg13 : Memref sig .tc .vmem S8x1x64x325 .bf16) (harg13 : arg13.IsWhole)
    (x0 : Vec F S12 .f32) (x1 : Vec F S8x1x64x325 .bf16) (x2 : Vec F S8x1x64x325 .bf16) (x3 : Vec F S1x336x8x128 .i8) (x4 : Vec F S1x336x8x128 .i8) (x5 : Vec F S1x336x8x128 .i8) (x6 : Vec F S8x1x64x325 .fp8e4m3) (x7 : Vec F S1x8x64 .f32) (x8 : Vec F S8x1x64x325 .bf16) :
    Σ' (L9 : List (View.Piece (Elt F) S8x1x64x325 .bf16)), Σ' (L10 : List (View.Piece (Elt F) S8x1x64x325 .bf16)), { L11 : List (View.Piece (Elt F) S8x1x64x325 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    iexists _; iexact H11

end Cert.Kernel.Gen

end
-- ==== Proof.OutK.lean ====
/- WHAT THE RUN LEAVES. Each of the three output blocks (eight images of one head) as a function of the input blocks alone,
   image by image (`outDq`, `outDk`, `outDv`): the pieces that the body's run found are the blocks of these functions, and
   they cover. -/
module

public import proofs.«01_k».proof.Proof.RunK
public import Idealize.ShloMosaic.Lib.WholeRead
public import Idealize.ShloMosaic.Lib.Pipeline.ReadBack
public import Idealize.ShloMosaic.Lib.ValueIdxCore

@[expose] public section

set_option maxRecDepth 16384

noncomputable section

namespace Cert.Kernel.Gen

open Cert.Kernel Idealize.ShloMosaic Idealize.ShloMosaic.TcCoe Idealize.ShloMosaic.Tactic
open Idealize.SL.Sem

variable {F : FTy → Type} [FloatOps F]

/-! ## The output blocks as functions of the input blocks -/

/-- The codes of image `b` in a tile. -/
def codes (b : Fin 8) (x : Vec F S1x336x8x128 .i8) : IVec S336x128 32 :=
  match b with
  | 0 => Img.code (Img.word0 x) 24#32
  | 1 => Img.code (Img.word0 x) 16#32
  | 2 => Img.code (Img.word0 x) 8#32
  | 3 => Img.code (Img.word0 x) 0#32
  | 4 => Img.code (Img.word1 x) 24#32
  | 5 => Img.code (Img.word1 x) 16#32
  | 6 => Img.code (Img.word1 x) 8#32
  | 7 => Img.code (Img.word1 x) 0#32

/-- The codes of image `b` in the last tile. -/
def codesTail (b : Fin 8) (x : Vec F S1x336x8x128 .i8) : IVec S336x128 32 :=
  match b with
  | 0 => Img.codeTail (Img.word0 x) 24#32
  | 1 => Img.codeTail (Img.word0 x) 16#32
  | 2 => Img.codeTail (Img.word0 x) 8#32
  | 3 => Img.codeTail (Img.word0 x) 0#32
  | 4 => Img.codeTail (Img.word1 x) 24#32
  | 5 => Img.codeTail (Img.word1 x) 16#32
  | 6 => Img.codeTail (Img.word1 x) 8#32
  | 7 => Img.codeTail (Img.word1 x) 0#32

/-- Image `b` of a block. -/
def sub {e : EltTy} (b : Fin 8) (x : Vec F S8x1x64x325 e) : Vec F S1x1x64x325 e :=
  fun z => x (ValueIdx.ix4 b (0 : Fin 1) (z 2 : Fin 64) (z 3 : Fin 325))

/-- Image `b`'s value scales in a block. -/
def subVs (b : Fin 8) (x : Vec F S1x8x64 .f32) : Vec F S1x1x64 .f32 :=
  fun z => x (ValueIdx.ix3 (0 : Fin 1) b (z 2 : Fin 64))

/-- The block of the gradient of the queries: image by image. -/
def outDq (ps : Elt F .f32) (x2 : Vec F S8x1x64x325 .bf16) (x3 x4 x5 : Vec F S1x336x8x128 .i8) (x6 : Vec F S8x1x64x325 .fp8e4m3) (x7 : Vec F S1x8x64 .f32) (x8 : Vec F S8x1x64x325 .bf16) : Vec F S8x1x64x325 .bf16 :=
  fun y => Img.dq ps (codes (F := F) (y 0) x3) (codes (F := F) (y 0) x4) (codesTail (F := F) (y 0) x5) (sub (y 0) x2) (sub (y 0) x8) (sub (y 0) x6) (subVs (y 0) x7)
    (ValueIdx.ix4 (0 : Fin 1) (0 : Fin 1) (y 2 : Fin 64) (y 3 : Fin 325))

/-- The block of the gradient of the keys: image by image. -/
def outDk (ps : Elt F .f32) (x1 : Vec F S8x1x64x325 .bf16) (x3 x4 x5 : Vec F S1x336x8x128 .i8) (x6 : Vec F S8x1x64x325 .fp8e4m3) (x7 : Vec F S1x8x64 .f32) (x8 : Vec F S8x1x64x325 .bf16) : Vec F S8x1x64x325 .bf16 :=
  fun y => Img.dk ps (codes (F := F) (y 0) x3) (codes (F := F) (y 0) x4) (codesTail (F := F) (y 0) x5) (sub (y 0) x1) (sub (y 0) x8) (sub (y 0) x6) (subVs (y 0) x7)
    (ValueIdx.ix4 (0 : Fin 1) (0 : Fin 1) (y 2 : Fin 64) (y 3 : Fin 325))

/-- The block of the gradient of the values: image by image. -/
def outDv (ps : Elt F .f32) (x3 x4 x5 : Vec F S1x336x8x128 .i8) (x8 : Vec F S8x1x64x325 .bf16) : Vec F S8x1x64x325 .bf16 :=
  fun y => Img.dv ps (codes (F := F) (y 0) x3) (codes (F := F) (y 0) x4) (codesTail (F := F) (y 0) x5) (sub (y 0) x8)
    (ValueIdx.ix4 (0 : Fin 1) (0 : Fin 1) (y 2 : Fin 64) (y 3 : Fin 325))

/-- The head's scale, read at the grid's first coordinate. -/
def scale (i : grid0.Coords) (x0 : Vec F S12 .f32) : Elt F .f32 :=
  x0 ((Rect.unit (s := S12) (k0_off1 i) S1.size (k0_off1_inb i)).idx (Shape.Idx.first (numel1_S1.symm ▸ Nat.one_pos)))

/-! ## What the body loads -/

/-- The load of the head's scale. -/
def ldP (m : Memref sig .tc .smem S12 .f32) (h : m.IsWhole) (x : Vec F S12 .f32) (i : grid0.Coords) : Elt F .f32 :=
  m.view.readAt (Elt F) (Rect.unit (s := S12) (k0_off1 i) S1.size (k0_off1_inb i)).toLoadRect (h.unread x) (Shape.Idx.first (numel1_S1.symm ▸ Nat.one_pos))

/-- The load of a whole tile of codes. -/
def ldT (m : Memref sig .tc .vmem S1x336x8x128 .i8) (h : m.IsWhole) (x : Vec F S1x336x8x128 .i8) : Vec F S1x336x8x128 .i8 :=
  m.view.readAt (Elt F) (Rect.unit (s := S1x336x8x128) ![0, 0, 0, 0] S1x336x8x128.size inb_S1x336x8x128_S1x336x8x128_0_0_0_0).toLoadRect (h.unread x)

/-- The load of one image's matrix. -/
def ldB {e : EltTy} (m : Memref sig .tc .vmem S8x1x64x325 e) (h : m.IsWhole) (x : Vec F S8x1x64x325 e) (b : Nat)
    (inb : ∀ a, (![b, 0, 0, 0] : Fin 4 → Nat) a + S1x1x64x325.size a ≤ S8x1x64x325.size a) : Vec F S1x1x64x325 e :=
  m.view.readAt (Elt F) (Rect.unit (s := S8x1x64x325) ![b, 0, 0, 0] S1x1x64x325.size inb).toLoadRect (h.unread x)

/-- The load of one image's value scales. -/
def ldVs (m : Memref sig .tc .vmem S1x8x64 .f32) (h : m.IsWhole) (x : Vec F S1x8x64 .f32) (b : Nat)
    (inb : ∀ a, (![0, b, 0] : Fin 3 → Nat) a + S1x1x64.size a ≤ S1x8x64.size a) : Vec F S1x1x64 .f32 :=
  m.view.readAt (Elt F) (Rect.unit (s := S1x8x64) ![0, b, 0] S1x1x64.size inb).toLoadRect (h.unread x)

/-- The scale loaded from a whole buffer is the one its contents hold. -/
theorem ldP_eq (m : Memref sig .tc .smem S12 .f32) (h : m.IsWhole) (x : Vec F S12 .f32) (i : grid0.Coords) : ldP m h x i = scale i x := by
  unfold ldP scale
  rw [h.readAt_unread]

/-- A tile loaded whole is the buffer's contents. -/
theorem ldT_eq (m : Memref sig .tc .vmem S1x336x8x128 .i8) (h : m.IsWhole) (x : Vec F S1x336x8x128 .i8) : ldT m h x = x := by
  unfold ldT
  funext z
  rw [h.readAt_unread]
  congr 1
  funext a
  apply Fin.ext
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)
  | ⟨3, _⟩ => exact (Nat.zero_add _).trans (Nat.one_mul _)

/-- An image loaded from a group is that image of the buffer's contents. -/
theorem ldB_eq {e : EltTy} (m : Memref sig .tc .vmem S8x1x64x325 e) (h : m.IsWhole) (x : Vec F S8x1x64x325 e) (b : Nat) (inb) (b' : Fin 8)
    (hb : b'.val = b) : ldB m h x b inb = sub b' x := by
  subst hb
  unfold ldB sub
  funext z
  rw [h.readAt_unread]
  congr 1
  funext a
  apply Fin.ext
  match a with
  | ⟨0, _⟩ => show b'.val + 1 * (z 0).val = b'.val; have : (z 0).val < 1 := (z 0).isLt; omega
  | ⟨1, _⟩ => show 0 + 1 * (z 1).val = 0; have : (z 1).val < 1 := (z 1).isLt; omega
  | ⟨2, _⟩ => exact (Nat.zero_add _).trans (Nat.one_mul _)
  | ⟨3, _⟩ => exact (Nat.zero_add _).trans (Nat.one_mul _)

/-- An image's scales loaded from a group are those of the buffer's contents. -/
theorem ldVs_eq (m : Memref sig .tc .vmem S1x8x64 .f32) (h : m.IsWhole) (x : Vec F S1x8x64 .f32) (b : Nat) (inb) (b' : Fin 8)
    (hb : b'.val = b) : ldVs m h x b inb = subVs b' x := by
  subst hb
  unfold ldVs subVs
  funext z
  rw [h.readAt_unread]
  congr 1
  funext a
  apply Fin.ext
  match a with
  | ⟨0, _⟩ => show 0 + 1 * (z 0).val = 0; have : (z 0).val < 1 := (z 0).isLt; omega
  | ⟨1, _⟩ => show b'.val + 1 * (z 1).val = b'.val; have : (z 1).val < 1 := (z 1).isLt; omega
  | ⟨2, _⟩ => exact (Nat.zero_add _).trans (Nat.one_mul _)

/-- A stored block's index, in the output block: image `b`, the same place. -/
theorem emb_image (b : Nat) (inb : ∀ a, (![b, 0, 0, 0] : Fin 4 → Nat) a + S1x1x64x325.size a ≤ S8x1x64x325.size a) (b' : Fin 8) (hb : b'.val = b)
    (x : S1x1x64x325.Idx) : (Rect.unit (s := S8x1x64x325) ![b, 0, 0, 0] S1x1x64x325.size inb).emb x = ValueIdx.ix4 b' (0 : Fin 1) (x 2 : Fin 64) (x 3 : Fin 325) := by
  subst hb
  funext a
  apply Fin.ext
  match a with
  | ⟨0, _⟩ => show b'.val + 1 * (x 0).val = b'.val; have : (x 0).val < 1 := (x 0).isLt; omega
  | ⟨1, _⟩ => show 0 + 1 * (x 1).val = 0; have : (x 1).val < 1 := (x 1).isLt; omega
  | ⟨2, _⟩ => exact (Nat.zero_add _).trans (Nat.one_mul _)
  | ⟨3, _⟩ => exact (Nat.zero_add _).trans (Nat.one_mul _)

/-- An index of one image's matrix has its first two coordinates zero. -/
theorem idx_image (x : S1x1x64x325.Idx) : x = ValueIdx.ix4 (0 : Fin 1) (0 : Fin 1) (x 2 : Fin 64) (x 3 : Fin 325) := by
  funext a
  apply Fin.ext
  match a with
  | ⟨0, _⟩ => show (x 0).val = 0; have : (x 0).val < 1 := (x 0).isLt; omega
  | ⟨1, _⟩ => show (x 1).val = 0; have : (x 1).val < 1 := (x 1).isLt; omega
  | ⟨2, _⟩ => rfl
  | ⟨3, _⟩ => rfl

/-! ## The pieces -/

/-- The pieces stored for the gradient of the queries are blocks of `outDq`. -/
theorem piecesDq (c : Dev nD) (i : grid0.Coords) (arg2 : Memref sig .tc .smem S12 .f32) (harg2 : arg2.IsWhole) (arg3 : Memref sig .tc .vmem S8x1x64x325 .bf16) (harg3 : arg3.IsWhole) (arg4 : Memref sig .tc .vmem S8x1x64x325 .bf16) (harg4 : arg4.IsWhole) (arg5 : Memref sig .tc .vmem S1x336x8x128 .i8) (harg5 : arg5.IsWhole) (arg6 : Memref sig .tc .vmem S1x336x8x128 .i8) (harg6 : arg6.IsWhole) (arg7 : Memref sig .tc .vmem S1x336x8x128 .i8) (harg7 : arg7.IsWhole) (arg8 : Memref sig .tc .vmem S8x1x64x325 .fp8e4m3) (harg8 : arg8.IsWhole) (arg9 : Memref sig .tc .vmem S1x8x64 .f32) (harg9 : arg9.IsWhole) (arg10 : Memref sig .tc .vmem S8x1x64x325 .bf16) (harg10 : arg10.IsWhole) (arg11 : Memref sig .tc .vmem S8x1x64x325 .bf16) (harg11 : arg11.IsWhole) (arg12 : Memref sig .tc .vmem S8x1x64x325 .bf16) (harg12 : arg12.IsWhole) (arg13 : Memref sig .tc .vmem S8x1x64x325 .bf16) (harg13 : arg13.IsWhole)
    (x0 : Vec F S12 .f32) (x1 : Vec F S8x1x64x325 .bf16) (x2 : Vec F S8x1x64x325 .bf16) (x3 : Vec F S1x336x8x128 .i8) (x4 : Vec F S1x336x8x128 .i8) (x5 : Vec F S1x336x8x128 .i8) (x6 : Vec F S8x1x64x325 .fp8e4m3) (x7 : Vec F S1x8x64 .f32) (x8 : Vec F S8x1x64x325 .bf16) :
    View.PiecesOf (outDq (scale i x0) x2 x3 x4 x5 x6 x7 x8) (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8).1 := by
  unfold kernelRun0_A
  dsimp only
  refine ⟨?_, ?_, ?_, ?_, ?_, ?_, ?_, ?_, trivial⟩
  · intro x
    refine Eq.trans (b := Img.dq (ldP arg2 harg2 x0 i) (Img.code (Img.word1 (ldT arg5 harg5 x3)) 0#32) (Img.code (Img.word1 (ldT arg6 harg6 x4)) 0#32) (Img.codeTail (Img.word1 (ldT arg7 harg7 x5)) 0#32) (ldB arg4 harg4 x2 7 inb_S8x1x64x325_S1x1x64x325_7_0_0_0) (ldB arg10 harg10 x8 7 inb_S8x1x64x325_S1x1x64x325_7_0_0_0) (ldB arg8 harg8 x6 7 inb_S8x1x64x325_S1x1x64x325_7_0_0_0) (ldVs arg9 harg9 x7 7 inb_S1x8x64_S1x1x64_0_7_0) x) rfl ?_
    refine Eq.trans ?_ (congrArg (outDq (scale i x0) x2 x3 x4 x5 x6 x7 x8) (emb_image 7 inb_S8x1x64x325_S1x1x64x325_7_0_0_0 7 rfl x)).symm
    simp only [ldP_eq, ldT_eq, ldB_eq _ _ _ 7 _ 7 rfl, ldVs_eq _ _ _ 7 _ 7 rfl]
    exact congrArg _ (idx_image x)
  · intro x
    refine Eq.trans (b := Img.dq (ldP arg2 harg2 x0 i) (Img.code (Img.word1 (ldT arg5 harg5 x3)) 8#32) (Img.code (Img.word1 (ldT arg6 harg6 x4)) 8#32) (Img.codeTail (Img.word1 (ldT arg7 harg7 x5)) 8#32) (ldB arg4 harg4 x2 6 inb_S8x1x64x325_S1x1x64x325_6_0_0_0) (ldB arg10 harg10 x8 6 inb_S8x1x64x325_S1x1x64x325_6_0_0_0) (ldB arg8 harg8 x6 6 inb_S8x1x64x325_S1x1x64x325_6_0_0_0) (ldVs arg9 harg9 x7 6 inb_S1x8x64_S1x1x64_0_6_0) x) rfl ?_
    refine Eq.trans ?_ (congrArg (outDq (scale i x0) x2 x3 x4 x5 x6 x7 x8) (emb_image 6 inb_S8x1x64x325_S1x1x64x325_6_0_0_0 6 rfl x)).symm
    simp only [ldP_eq, ldT_eq, ldB_eq _ _ _ 6 _ 6 rfl, ldVs_eq _ _ _ 6 _ 6 rfl]
    exact congrArg _ (idx_image x)
  · intro x
    refine Eq.trans (b := Img.dq (ldP arg2 harg2 x0 i) (Img.code (Img.word1 (ldT arg5 harg5 x3)) 16#32) (Img.code (Img.word1 (ldT arg6 harg6 x4)) 16#32) (Img.codeTail (Img.word1 (ldT arg7 harg7 x5)) 16#32) (ldB arg4 harg4 x2 5 inb_S8x1x64x325_S1x1x64x325_5_0_0_0) (ldB arg10 harg10 x8 5 inb_S8x1x64x325_S1x1x64x325_5_0_0_0) (ldB arg8 harg8 x6 5 inb_S8x1x64x325_S1x1x64x325_5_0_0_0) (ldVs arg9 harg9 x7 5 inb_S1x8x64_S1x1x64_0_5_0) x) rfl ?_
    refine Eq.trans ?_ (congrArg (outDq (scale i x0) x2 x3 x4 x5 x6 x7 x8) (emb_image 5 inb_S8x1x64x325_S1x1x64x325_5_0_0_0 5 rfl x)).symm
    simp only [ldP_eq, ldT_eq, ldB_eq _ _ _ 5 _ 5 rfl, ldVs_eq _ _ _ 5 _ 5 rfl]
    exact congrArg _ (idx_image x)
  · intro x
    refine Eq.trans (b := Img.dq (ldP arg2 harg2 x0 i) (Img.code (Img.word1 (ldT arg5 harg5 x3)) 24#32) (Img.code (Img.word1 (ldT arg6 harg6 x4)) 24#32) (Img.codeTail (Img.word1 (ldT arg7 harg7 x5)) 24#32) (ldB arg4 harg4 x2 4 inb_S8x1x64x325_S1x1x64x325_4_0_0_0) (ldB arg10 harg10 x8 4 inb_S8x1x64x325_S1x1x64x325_4_0_0_0) (ldB arg8 harg8 x6 4 inb_S8x1x64x325_S1x1x64x325_4_0_0_0) (ldVs arg9 harg9 x7 4 inb_S1x8x64_S1x1x64_0_4_0) x) rfl ?_
    refine Eq.trans ?_ (congrArg (outDq (scale i x0) x2 x3 x4 x5 x6 x7 x8) (emb_image 4 inb_S8x1x64x325_S1x1x64x325_4_0_0_0 4 rfl x)).symm
    simp only [ldP_eq, ldT_eq, ldB_eq _ _ _ 4 _ 4 rfl, ldVs_eq _ _ _ 4 _ 4 rfl]
    exact congrArg _ (idx_image x)
  · intro x
    refine Eq.trans (b := Img.dq (ldP arg2 harg2 x0 i) (Img.code (Img.word0 (ldT arg5 harg5 x3)) 0#32) (Img.code (Img.word0 (ldT arg6 harg6 x4)) 0#32) (Img.codeTail (Img.word0 (ldT arg7 harg7 x5)) 0#32) (ldB arg4 harg4 x2 3 inb_S8x1x64x325_S1x1x64x325_3_0_0_0) (ldB arg10 harg10 x8 3 inb_S8x1x64x325_S1x1x64x325_3_0_0_0) (ldB arg8 harg8 x6 3 inb_S8x1x64x325_S1x1x64x325_3_0_0_0) (ldVs arg9 harg9 x7 3 inb_S1x8x64_S1x1x64_0_3_0) x) rfl ?_
    refine Eq.trans ?_ (congrArg (outDq (scale i x0) x2 x3 x4 x5 x6 x7 x8) (emb_image 3 inb_S8x1x64x325_S1x1x64x325_3_0_0_0 3 rfl x)).symm
    simp only [ldP_eq, ldT_eq, ldB_eq _ _ _ 3 _ 3 rfl, ldVs_eq _ _ _ 3 _ 3 rfl]
    exact congrArg _ (idx_image x)
  · intro x
    refine Eq.trans (b := Img.dq (ldP arg2 harg2 x0 i) (Img.code (Img.word0 (ldT arg5 harg5 x3)) 8#32) (Img.code (Img.word0 (ldT arg6 harg6 x4)) 8#32) (Img.codeTail (Img.word0 (ldT arg7 harg7 x5)) 8#32) (ldB arg4 harg4 x2 2 inb_S8x1x64x325_S1x1x64x325_2_0_0_0) (ldB arg10 harg10 x8 2 inb_S8x1x64x325_S1x1x64x325_2_0_0_0) (ldB arg8 harg8 x6 2 inb_S8x1x64x325_S1x1x64x325_2_0_0_0) (ldVs arg9 harg9 x7 2 inb_S1x8x64_S1x1x64_0_2_0) x) rfl ?_
    refine Eq.trans ?_ (congrArg (outDq (scale i x0) x2 x3 x4 x5 x6 x7 x8) (emb_image 2 inb_S8x1x64x325_S1x1x64x325_2_0_0_0 2 rfl x)).symm
    simp only [ldP_eq, ldT_eq, ldB_eq _ _ _ 2 _ 2 rfl, ldVs_eq _ _ _ 2 _ 2 rfl]
    exact congrArg _ (idx_image x)
  · intro x
    refine Eq.trans (b := Img.dq (ldP arg2 harg2 x0 i) (Img.code (Img.word0 (ldT arg5 harg5 x3)) 16#32) (Img.code (Img.word0 (ldT arg6 harg6 x4)) 16#32) (Img.codeTail (Img.word0 (ldT arg7 harg7 x5)) 16#32) (ldB arg4 harg4 x2 1 inb_S8x1x64x325_S1x1x64x325_1_0_0_0) (ldB arg10 harg10 x8 1 inb_S8x1x64x325_S1x1x64x325_1_0_0_0) (ldB arg8 harg8 x6 1 inb_S8x1x64x325_S1x1x64x325_1_0_0_0) (ldVs arg9 harg9 x7 1 inb_S1x8x64_S1x1x64_0_1_0) x) rfl ?_
    refine Eq.trans ?_ (congrArg (outDq (scale i x0) x2 x3 x4 x5 x6 x7 x8) (emb_image 1 inb_S8x1x64x325_S1x1x64x325_1_0_0_0 1 rfl x)).symm
    simp only [ldP_eq, ldT_eq, ldB_eq _ _ _ 1 _ 1 rfl, ldVs_eq _ _ _ 1 _ 1 rfl]
    exact congrArg _ (idx_image x)
  · intro x
    refine Eq.trans (b := Img.dq (ldP arg2 harg2 x0 i) (Img.code (Img.word0 (ldT arg5 harg5 x3)) 24#32) (Img.code (Img.word0 (ldT arg6 harg6 x4)) 24#32) (Img.codeTail (Img.word0 (ldT arg7 harg7 x5)) 24#32) (ldB arg4 harg4 x2 0 inb_S8x1x64x325_S1x1x64x325_0_0_0_0) (ldB arg10 harg10 x8 0 inb_S8x1x64x325_S1x1x64x325_0_0_0_0) (ldB arg8 harg8 x6 0 inb_S8x1x64x325_S1x1x64x325_0_0_0_0) (ldVs arg9 harg9 x7 0 inb_S1x8x64_S1x1x64_0_0_0) x) rfl ?_
    refine Eq.trans ?_ (congrArg (outDq (scale i x0) x2 x3 x4 x5 x6 x7 x8) (emb_image 0 inb_S8x1x64x325_S1x1x64x325_0_0_0_0 0 rfl x)).symm
    simp only [ldP_eq, ldT_eq, ldB_eq _ _ _ 0 _ 0 rfl, ldVs_eq _ _ _ 0 _ 0 rfl]
    exact congrArg _ (idx_image x)

/-- They cover the block. -/
theorem coverDq (c : Dev nD) (i : grid0.Coords) (arg2 : Memref sig .tc .smem S12 .f32) (harg2 : arg2.IsWhole) (arg3 : Memref sig .tc .vmem S8x1x64x325 .bf16) (harg3 : arg3.IsWhole) (arg4 : Memref sig .tc .vmem S8x1x64x325 .bf16) (harg4 : arg4.IsWhole) (arg5 : Memref sig .tc .vmem S1x336x8x128 .i8) (harg5 : arg5.IsWhole) (arg6 : Memref sig .tc .vmem S1x336x8x128 .i8) (harg6 : arg6.IsWhole) (arg7 : Memref sig .tc .vmem S1x336x8x128 .i8) (harg7 : arg7.IsWhole) (arg8 : Memref sig .tc .vmem S8x1x64x325 .fp8e4m3) (harg8 : arg8.IsWhole) (arg9 : Memref sig .tc .vmem S1x8x64 .f32) (harg9 : arg9.IsWhole) (arg10 : Memref sig .tc .vmem S8x1x64x325 .bf16) (harg10 : arg10.IsWhole) (arg11 : Memref sig .tc .vmem S8x1x64x325 .bf16) (harg11 : arg11.IsWhole) (arg12 : Memref sig .tc .vmem S8x1x64x325 .bf16) (harg12 : arg12.IsWhole) (arg13 : Memref sig .tc .vmem S8x1x64x325 .bf16) (harg13 : arg13.IsWhole)
    (x0 : Vec F S12 .f32) (x1 : Vec F S8x1x64x325 .bf16) (x2 : Vec F S8x1x64x325 .bf16) (x3 : Vec F S1x336x8x128 .i8) (x4 : Vec F S1x336x8x128 .i8) (x5 : Vec F S1x336x8x128 .i8) (x6 : Vec F S8x1x64x325 .fp8e4m3) (x7 : Vec F S1x8x64 .f32) (x8 : Vec F S8x1x64x325 .bf16) (y : S8x1x64x325.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8).1 S1x1x64x325.size (by sl_kernel_rfl) y

/-- The pieces stored for the gradient of the keys are blocks of `outDk`. -/
theorem piecesDk (c : Dev nD) (i : grid0.Coords) (arg2 : Memref sig .tc .smem S12 .f32) (harg2 : arg2.IsWhole) (arg3 : Memref sig .tc .vmem S8x1x64x325 .bf16) (harg3 : arg3.IsWhole) (arg4 : Memref sig .tc .vmem S8x1x64x325 .bf16) (harg4 : arg4.IsWhole) (arg5 : Memref sig .tc .vmem S1x336x8x128 .i8) (harg5 : arg5.IsWhole) (arg6 : Memref sig .tc .vmem S1x336x8x128 .i8) (harg6 : arg6.IsWhole) (arg7 : Memref sig .tc .vmem S1x336x8x128 .i8) (harg7 : arg7.IsWhole) (arg8 : Memref sig .tc .vmem S8x1x64x325 .fp8e4m3) (harg8 : arg8.IsWhole) (arg9 : Memref sig .tc .vmem S1x8x64 .f32) (harg9 : arg9.IsWhole) (arg10 : Memref sig .tc .vmem S8x1x64x325 .bf16) (harg10 : arg10.IsWhole) (arg11 : Memref sig .tc .vmem S8x1x64x325 .bf16) (harg11 : arg11.IsWhole) (arg12 : Memref sig .tc .vmem S8x1x64x325 .bf16) (harg12 : arg12.IsWhole) (arg13 : Memref sig .tc .vmem S8x1x64x325 .bf16) (harg13 : arg13.IsWhole)
    (x0 : Vec F S12 .f32) (x1 : Vec F S8x1x64x325 .bf16) (x2 : Vec F S8x1x64x325 .bf16) (x3 : Vec F S1x336x8x128 .i8) (x4 : Vec F S1x336x8x128 .i8) (x5 : Vec F S1x336x8x128 .i8) (x6 : Vec F S8x1x64x325 .fp8e4m3) (x7 : Vec F S1x8x64 .f32) (x8 : Vec F S8x1x64x325 .bf16) :
    View.PiecesOf (outDk (scale i x0) x1 x3 x4 x5 x6 x7 x8) (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.1 := by
  unfold kernelRun0_A
  dsimp only
  refine ⟨?_, ?_, ?_, ?_, ?_, ?_, ?_, ?_, trivial⟩
  · intro x
    refine Eq.trans (b := Img.dk (ldP arg2 harg2 x0 i) (Img.code (Img.word1 (ldT arg5 harg5 x3)) 0#32) (Img.code (Img.word1 (ldT arg6 harg6 x4)) 0#32) (Img.codeTail (Img.word1 (ldT arg7 harg7 x5)) 0#32) (ldB arg3 harg3 x1 7 inb_S8x1x64x325_S1x1x64x325_7_0_0_0) (ldB arg10 harg10 x8 7 inb_S8x1x64x325_S1x1x64x325_7_0_0_0) (ldB arg8 harg8 x6 7 inb_S8x1x64x325_S1x1x64x325_7_0_0_0) (ldVs arg9 harg9 x7 7 inb_S1x8x64_S1x1x64_0_7_0) x) rfl ?_
    refine Eq.trans ?_ (congrArg (outDk (scale i x0) x1 x3 x4 x5 x6 x7 x8) (emb_image 7 inb_S8x1x64x325_S1x1x64x325_7_0_0_0 7 rfl x)).symm
    simp only [ldP_eq, ldT_eq, ldB_eq _ _ _ 7 _ 7 rfl, ldVs_eq _ _ _ 7 _ 7 rfl]
    exact congrArg _ (idx_image x)
  · intro x
    refine Eq.trans (b := Img.dk (ldP arg2 harg2 x0 i) (Img.code (Img.word1 (ldT arg5 harg5 x3)) 8#32) (Img.code (Img.word1 (ldT arg6 harg6 x4)) 8#32) (Img.codeTail (Img.word1 (ldT arg7 harg7 x5)) 8#32) (ldB arg3 harg3 x1 6 inb_S8x1x64x325_S1x1x64x325_6_0_0_0) (ldB arg10 harg10 x8 6 inb_S8x1x64x325_S1x1x64x325_6_0_0_0) (ldB arg8 harg8 x6 6 inb_S8x1x64x325_S1x1x64x325_6_0_0_0) (ldVs arg9 harg9 x7 6 inb_S1x8x64_S1x1x64_0_6_0) x) rfl ?_
    refine Eq.trans ?_ (congrArg (outDk (scale i x0) x1 x3 x4 x5 x6 x7 x8) (emb_image 6 inb_S8x1x64x325_S1x1x64x325_6_0_0_0 6 rfl x)).symm
    simp only [ldP_eq, ldT_eq, ldB_eq _ _ _ 6 _ 6 rfl, ldVs_eq _ _ _ 6 _ 6 rfl]
    exact congrArg _ (idx_image x)
  · intro x
    refine Eq.trans (b := Img.dk (ldP arg2 harg2 x0 i) (Img.code (Img.word1 (ldT arg5 harg5 x3)) 16#32) (Img.code (Img.word1 (ldT arg6 harg6 x4)) 16#32) (Img.codeTail (Img.word1 (ldT arg7 harg7 x5)) 16#32) (ldB arg3 harg3 x1 5 inb_S8x1x64x325_S1x1x64x325_5_0_0_0) (ldB arg10 harg10 x8 5 inb_S8x1x64x325_S1x1x64x325_5_0_0_0) (ldB arg8 harg8 x6 5 inb_S8x1x64x325_S1x1x64x325_5_0_0_0) (ldVs arg9 harg9 x7 5 inb_S1x8x64_S1x1x64_0_5_0) x) rfl ?_
    refine Eq.trans ?_ (congrArg (outDk (scale i x0) x1 x3 x4 x5 x6 x7 x8) (emb_image 5 inb_S8x1x64x325_S1x1x64x325_5_0_0_0 5 rfl x)).symm
    simp only [ldP_eq, ldT_eq, ldB_eq _ _ _ 5 _ 5 rfl, ldVs_eq _ _ _ 5 _ 5 rfl]
    exact congrArg _ (idx_image x)
  · intro x
    refine Eq.trans (b := Img.dk (ldP arg2 harg2 x0 i) (Img.code (Img.word1 (ldT arg5 harg5 x3)) 24#32) (Img.code (Img.word1 (ldT arg6 harg6 x4)) 24#32) (Img.codeTail (Img.word1 (ldT arg7 harg7 x5)) 24#32) (ldB arg3 harg3 x1 4 inb_S8x1x64x325_S1x1x64x325_4_0_0_0) (ldB arg10 harg10 x8 4 inb_S8x1x64x325_S1x1x64x325_4_0_0_0) (ldB arg8 harg8 x6 4 inb_S8x1x64x325_S1x1x64x325_4_0_0_0) (ldVs arg9 harg9 x7 4 inb_S1x8x64_S1x1x64_0_4_0) x) rfl ?_
    refine Eq.trans ?_ (congrArg (outDk (scale i x0) x1 x3 x4 x5 x6 x7 x8) (emb_image 4 inb_S8x1x64x325_S1x1x64x325_4_0_0_0 4 rfl x)).symm
    simp only [ldP_eq, ldT_eq, ldB_eq _ _ _ 4 _ 4 rfl, ldVs_eq _ _ _ 4 _ 4 rfl]
    exact congrArg _ (idx_image x)
  · intro x
    refine Eq.trans (b := Img.dk (ldP arg2 harg2 x0 i) (Img.code (Img.word0 (ldT arg5 harg5 x3)) 0#32) (Img.code (Img.word0 (ldT arg6 harg6 x4)) 0#32) (Img.codeTail (Img.word0 (ldT arg7 harg7 x5)) 0#32) (ldB arg3 harg3 x1 3 inb_S8x1x64x325_S1x1x64x325_3_0_0_0) (ldB arg10 harg10 x8 3 inb_S8x1x64x325_S1x1x64x325_3_0_0_0) (ldB arg8 harg8 x6 3 inb_S8x1x64x325_S1x1x64x325_3_0_0_0) (ldVs arg9 harg9 x7 3 inb_S1x8x64_S1x1x64_0_3_0) x) rfl ?_
    refine Eq.trans ?_ (congrArg (outDk (scale i x0) x1 x3 x4 x5 x6 x7 x8) (emb_image 3 inb_S8x1x64x325_S1x1x64x325_3_0_0_0 3 rfl x)).symm
    simp only [ldP_eq, ldT_eq, ldB_eq _ _ _ 3 _ 3 rfl, ldVs_eq _ _ _ 3 _ 3 rfl]
    exact congrArg _ (idx_image x)
  · intro x
    refine Eq.trans (b := Img.dk (ldP arg2 harg2 x0 i) (Img.code (Img.word0 (ldT arg5 harg5 x3)) 8#32) (Img.code (Img.word0 (ldT arg6 harg6 x4)) 8#32) (Img.codeTail (Img.word0 (ldT arg7 harg7 x5)) 8#32) (ldB arg3 harg3 x1 2 inb_S8x1x64x325_S1x1x64x325_2_0_0_0) (ldB arg10 harg10 x8 2 inb_S8x1x64x325_S1x1x64x325_2_0_0_0) (ldB arg8 harg8 x6 2 inb_S8x1x64x325_S1x1x64x325_2_0_0_0) (ldVs arg9 harg9 x7 2 inb_S1x8x64_S1x1x64_0_2_0) x) rfl ?_
    refine Eq.trans ?_ (congrArg (outDk (scale i x0) x1 x3 x4 x5 x6 x7 x8) (emb_image 2 inb_S8x1x64x325_S1x1x64x325_2_0_0_0 2 rfl x)).symm
    simp only [ldP_eq, ldT_eq, ldB_eq _ _ _ 2 _ 2 rfl, ldVs_eq _ _ _ 2 _ 2 rfl]
    exact congrArg _ (idx_image x)
  · intro x
    refine Eq.trans (b := Img.dk (ldP arg2 harg2 x0 i) (Img.code (Img.word0 (ldT arg5 harg5 x3)) 16#32) (Img.code (Img.word0 (ldT arg6 harg6 x4)) 16#32) (Img.codeTail (Img.word0 (ldT arg7 harg7 x5)) 16#32) (ldB arg3 harg3 x1 1 inb_S8x1x64x325_S1x1x64x325_1_0_0_0) (ldB arg10 harg10 x8 1 inb_S8x1x64x325_S1x1x64x325_1_0_0_0) (ldB arg8 harg8 x6 1 inb_S8x1x64x325_S1x1x64x325_1_0_0_0) (ldVs arg9 harg9 x7 1 inb_S1x8x64_S1x1x64_0_1_0) x) rfl ?_
    refine Eq.trans ?_ (congrArg (outDk (scale i x0) x1 x3 x4 x5 x6 x7 x8) (emb_image 1 inb_S8x1x64x325_S1x1x64x325_1_0_0_0 1 rfl x)).symm
    simp only [ldP_eq, ldT_eq, ldB_eq _ _ _ 1 _ 1 rfl, ldVs_eq _ _ _ 1 _ 1 rfl]
    exact congrArg _ (idx_image x)
  · intro x
    refine Eq.trans (b := Img.dk (ldP arg2 harg2 x0 i) (Img.code (Img.word0 (ldT arg5 harg5 x3)) 24#32) (Img.code (Img.word0 (ldT arg6 harg6 x4)) 24#32) (Img.codeTail (Img.word0 (ldT arg7 harg7 x5)) 24#32) (ldB arg3 harg3 x1 0 inb_S8x1x64x325_S1x1x64x325_0_0_0_0) (ldB arg10 harg10 x8 0 inb_S8x1x64x325_S1x1x64x325_0_0_0_0) (ldB arg8 harg8 x6 0 inb_S8x1x64x325_S1x1x64x325_0_0_0_0) (ldVs arg9 harg9 x7 0 inb_S1x8x64_S1x1x64_0_0_0) x) rfl ?_
    refine Eq.trans ?_ (congrArg (outDk (scale i x0) x1 x3 x4 x5 x6 x7 x8) (emb_image 0 inb_S8x1x64x325_S1x1x64x325_0_0_0_0 0 rfl x)).symm
    simp only [ldP_eq, ldT_eq, ldB_eq _ _ _ 0 _ 0 rfl, ldVs_eq _ _ _ 0 _ 0 rfl]
    exact congrArg _ (idx_image x)

/-- They cover the block. -/
theorem coverDk (c : Dev nD) (i : grid0.Coords) (arg2 : Memref sig .tc .smem S12 .f32) (harg2 : arg2.IsWhole) (arg3 : Memref sig .tc .vmem S8x1x64x325 .bf16) (harg3 : arg3.IsWhole) (arg4 : Memref sig .tc .vmem S8x1x64x325 .bf16) (harg4 : arg4.IsWhole) (arg5 : Memref sig .tc .vmem S1x336x8x128 .i8) (harg5 : arg5.IsWhole) (arg6 : Memref sig .tc .vmem S1x336x8x128 .i8) (harg6 : arg6.IsWhole) (arg7 : Memref sig .tc .vmem S1x336x8x128 .i8) (harg7 : arg7.IsWhole) (arg8 : Memref sig .tc .vmem S8x1x64x325 .fp8e4m3) (harg8 : arg8.IsWhole) (arg9 : Memref sig .tc .vmem S1x8x64 .f32) (harg9 : arg9.IsWhole) (arg10 : Memref sig .tc .vmem S8x1x64x325 .bf16) (harg10 : arg10.IsWhole) (arg11 : Memref sig .tc .vmem S8x1x64x325 .bf16) (harg11 : arg11.IsWhole) (arg12 : Memref sig .tc .vmem S8x1x64x325 .bf16) (harg12 : arg12.IsWhole) (arg13 : Memref sig .tc .vmem S8x1x64x325 .bf16) (harg13 : arg13.IsWhole)
    (x0 : Vec F S12 .f32) (x1 : Vec F S8x1x64x325 .bf16) (x2 : Vec F S8x1x64x325 .bf16) (x3 : Vec F S1x336x8x128 .i8) (x4 : Vec F S1x336x8x128 .i8) (x5 : Vec F S1x336x8x128 .i8) (x6 : Vec F S8x1x64x325 .fp8e4m3) (x7 : Vec F S1x8x64 .f32) (x8 : Vec F S8x1x64x325 .bf16) (y : S8x1x64x325.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.1 S1x1x64x325.size (by sl_kernel_rfl) y

/-- The pieces stored for the gradient of the values are blocks of `outDv`. -/
theorem piecesDv (c : Dev nD) (i : grid0.Coords) (arg2 : Memref sig .tc .smem S12 .f32) (harg2 : arg2.IsWhole) (arg3 : Memref sig .tc .vmem S8x1x64x325 .bf16) (harg3 : arg3.IsWhole) (arg4 : Memref sig .tc .vmem S8x1x64x325 .bf16) (harg4 : arg4.IsWhole) (arg5 : Memref sig .tc .vmem S1x336x8x128 .i8) (harg5 : arg5.IsWhole) (arg6 : Memref sig .tc .vmem S1x336x8x128 .i8) (harg6 : arg6.IsWhole) (arg7 : Memref sig .tc .vmem S1x336x8x128 .i8) (harg7 : arg7.IsWhole) (arg8 : Memref sig .tc .vmem S8x1x64x325 .fp8e4m3) (harg8 : arg8.IsWhole) (arg9 : Memref sig .tc .vmem S1x8x64 .f32) (harg9 : arg9.IsWhole) (arg10 : Memref sig .tc .vmem S8x1x64x325 .bf16) (harg10 : arg10.IsWhole) (arg11 : Memref sig .tc .vmem S8x1x64x325 .bf16) (harg11 : arg11.IsWhole) (arg12 : Memref sig .tc .vmem S8x1x64x325 .bf16) (harg12 : arg12.IsWhole) (arg13 : Memref sig .tc .vmem S8x1x64x325 .bf16) (harg13 : arg13.IsWhole)
    (x0 : Vec F S12 .f32) (x1 : Vec F S8x1x64x325 .bf16) (x2 : Vec F S8x1x64x325 .bf16) (x3 : Vec F S1x336x8x128 .i8) (x4 : Vec F S1x336x8x128 .i8) (x5 : Vec F S1x336x8x128 .i8) (x6 : Vec F S8x1x64x325 .fp8e4m3) (x7 : Vec F S1x8x64 .f32) (x8 : Vec F S8x1x64x325 .bf16) :
    View.PiecesOf (outDv (scale i x0) x3 x4 x5 x8) (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.2.1 := by
  unfold kernelRun0_A
  dsimp only
  refine ⟨?_, ?_, ?_, ?_, ?_, ?_, ?_, ?_, trivial⟩
  · intro x
    refine Eq.trans (b := Img.dv (ldP arg2 harg2 x0 i) (Img.code (Img.word1 (ldT arg5 harg5 x3)) 0#32) (Img.code (Img.word1 (ldT arg6 harg6 x4)) 0#32) (Img.codeTail (Img.word1 (ldT arg7 harg7 x5)) 0#32) (ldB arg10 harg10 x8 7 inb_S8x1x64x325_S1x1x64x325_7_0_0_0) x) rfl ?_
    refine Eq.trans ?_ (congrArg (outDv (scale i x0) x3 x4 x5 x8) (emb_image 7 inb_S8x1x64x325_S1x1x64x325_7_0_0_0 7 rfl x)).symm
    simp only [ldP_eq, ldT_eq, ldB_eq _ _ _ 7 _ 7 rfl, ldVs_eq _ _ _ 7 _ 7 rfl]
    exact congrArg _ (idx_image x)
  · intro x
    refine Eq.trans (b := Img.dv (ldP arg2 harg2 x0 i) (Img.code (Img.word1 (ldT arg5 harg5 x3)) 8#32) (Img.code (Img.word1 (ldT arg6 harg6 x4)) 8#32) (Img.codeTail (Img.word1 (ldT arg7 harg7 x5)) 8#32) (ldB arg10 harg10 x8 6 inb_S8x1x64x325_S1x1x64x325_6_0_0_0) x) rfl ?_
    refine Eq.trans ?_ (congrArg (outDv (scale i x0) x3 x4 x5 x8) (emb_image 6 inb_S8x1x64x325_S1x1x64x325_6_0_0_0 6 rfl x)).symm
    simp only [ldP_eq, ldT_eq, ldB_eq _ _ _ 6 _ 6 rfl, ldVs_eq _ _ _ 6 _ 6 rfl]
    exact congrArg _ (idx_image x)
  · intro x
    refine Eq.trans (b := Img.dv (ldP arg2 harg2 x0 i) (Img.code (Img.word1 (ldT arg5 harg5 x3)) 16#32) (Img.code (Img.word1 (ldT arg6 harg6 x4)) 16#32) (Img.codeTail (Img.word1 (ldT arg7 harg7 x5)) 16#32) (ldB arg10 harg10 x8 5 inb_S8x1x64x325_S1x1x64x325_5_0_0_0) x) rfl ?_
    refine Eq.trans ?_ (congrArg (outDv (scale i x0) x3 x4 x5 x8) (emb_image 5 inb_S8x1x64x325_S1x1x64x325_5_0_0_0 5 rfl x)).symm
    simp only [ldP_eq, ldT_eq, ldB_eq _ _ _ 5 _ 5 rfl, ldVs_eq _ _ _ 5 _ 5 rfl]
    exact congrArg _ (idx_image x)
  · intro x
    refine Eq.trans (b := Img.dv (ldP arg2 harg2 x0 i) (Img.code (Img.word1 (ldT arg5 harg5 x3)) 24#32) (Img.code (Img.word1 (ldT arg6 harg6 x4)) 24#32) (Img.codeTail (Img.word1 (ldT arg7 harg7 x5)) 24#32) (ldB arg10 harg10 x8 4 inb_S8x1x64x325_S1x1x64x325_4_0_0_0) x) rfl ?_
    refine Eq.trans ?_ (congrArg (outDv (scale i x0) x3 x4 x5 x8) (emb_image 4 inb_S8x1x64x325_S1x1x64x325_4_0_0_0 4 rfl x)).symm
    simp only [ldP_eq, ldT_eq, ldB_eq _ _ _ 4 _ 4 rfl, ldVs_eq _ _ _ 4 _ 4 rfl]
    exact congrArg _ (idx_image x)
  · intro x
    refine Eq.trans (b := Img.dv (ldP arg2 harg2 x0 i) (Img.code (Img.word0 (ldT arg5 harg5 x3)) 0#32) (Img.code (Img.word0 (ldT arg6 harg6 x4)) 0#32) (Img.codeTail (Img.word0 (ldT arg7 harg7 x5)) 0#32) (ldB arg10 harg10 x8 3 inb_S8x1x64x325_S1x1x64x325_3_0_0_0) x) rfl ?_
    refine Eq.trans ?_ (congrArg (outDv (scale i x0) x3 x4 x5 x8) (emb_image 3 inb_S8x1x64x325_S1x1x64x325_3_0_0_0 3 rfl x)).symm
    simp only [ldP_eq, ldT_eq, ldB_eq _ _ _ 3 _ 3 rfl, ldVs_eq _ _ _ 3 _ 3 rfl]
    exact congrArg _ (idx_image x)
  · intro x
    refine Eq.trans (b := Img.dv (ldP arg2 harg2 x0 i) (Img.code (Img.word0 (ldT arg5 harg5 x3)) 8#32) (Img.code (Img.word0 (ldT arg6 harg6 x4)) 8#32) (Img.codeTail (Img.word0 (ldT arg7 harg7 x5)) 8#32) (ldB arg10 harg10 x8 2 inb_S8x1x64x325_S1x1x64x325_2_0_0_0) x) rfl ?_
    refine Eq.trans ?_ (congrArg (outDv (scale i x0) x3 x4 x5 x8) (emb_image 2 inb_S8x1x64x325_S1x1x64x325_2_0_0_0 2 rfl x)).symm
    simp only [ldP_eq, ldT_eq, ldB_eq _ _ _ 2 _ 2 rfl, ldVs_eq _ _ _ 2 _ 2 rfl]
    exact congrArg _ (idx_image x)
  · intro x
    refine Eq.trans (b := Img.dv (ldP arg2 harg2 x0 i) (Img.code (Img.word0 (ldT arg5 harg5 x3)) 16#32) (Img.code (Img.word0 (ldT arg6 harg6 x4)) 16#32) (Img.codeTail (Img.word0 (ldT arg7 harg7 x5)) 16#32) (ldB arg10 harg10 x8 1 inb_S8x1x64x325_S1x1x64x325_1_0_0_0) x) rfl ?_
    refine Eq.trans ?_ (congrArg (outDv (scale i x0) x3 x4 x5 x8) (emb_image 1 inb_S8x1x64x325_S1x1x64x325_1_0_0_0 1 rfl x)).symm
    simp only [ldP_eq, ldT_eq, ldB_eq _ _ _ 1 _ 1 rfl, ldVs_eq _ _ _ 1 _ 1 rfl]
    exact congrArg _ (idx_image x)
  · intro x
    refine Eq.trans (b := Img.dv (ldP arg2 harg2 x0 i) (Img.code (Img.word0 (ldT arg5 harg5 x3)) 24#32) (Img.code (Img.word0 (ldT arg6 harg6 x4)) 24#32) (Img.codeTail (Img.word0 (ldT arg7 harg7 x5)) 24#32) (ldB arg10 harg10 x8 0 inb_S8x1x64x325_S1x1x64x325_0_0_0_0) x) rfl ?_
    refine Eq.trans ?_ (congrArg (outDv (scale i x0) x3 x4 x5 x8) (emb_image 0 inb_S8x1x64x325_S1x1x64x325_0_0_0_0 0 rfl x)).symm
    simp only [ldP_eq, ldT_eq, ldB_eq _ _ _ 0 _ 0 rfl, ldVs_eq _ _ _ 0 _ 0 rfl]
    exact congrArg _ (idx_image x)

/-- They cover the block. -/
theorem coverDv (c : Dev nD) (i : grid0.Coords) (arg2 : Memref sig .tc .smem S12 .f32) (harg2 : arg2.IsWhole) (arg3 : Memref sig .tc .vmem S8x1x64x325 .bf16) (harg3 : arg3.IsWhole) (arg4 : Memref sig .tc .vmem S8x1x64x325 .bf16) (harg4 : arg4.IsWhole) (arg5 : Memref sig .tc .vmem S1x336x8x128 .i8) (harg5 : arg5.IsWhole) (arg6 : Memref sig .tc .vmem S1x336x8x128 .i8) (harg6 : arg6.IsWhole) (arg7 : Memref sig .tc .vmem S1x336x8x128 .i8) (harg7 : arg7.IsWhole) (arg8 : Memref sig .tc .vmem S8x1x64x325 .fp8e4m3) (harg8 : arg8.IsWhole) (arg9 : Memref sig .tc .vmem S1x8x64 .f32) (harg9 : arg9.IsWhole) (arg10 : Memref sig .tc .vmem S8x1x64x325 .bf16) (harg10 : arg10.IsWhole) (arg11 : Memref sig .tc .vmem S8x1x64x325 .bf16) (harg11 : arg11.IsWhole) (arg12 : Memref sig .tc .vmem S8x1x64x325 .bf16) (harg12 : arg12.IsWhole) (arg13 : Memref sig .tc .vmem S8x1x64x325 .bf16) (harg13 : arg13.IsWhole)
    (x0 : Vec F S12 .f32) (x1 : Vec F S8x1x64x325 .bf16) (x2 : Vec F S8x1x64x325 .bf16) (x3 : Vec F S1x336x8x128 .i8) (x4 : Vec F S1x336x8x128 .i8) (x5 : Vec F S1x336x8x128 .i8) (x6 : Vec F S8x1x64x325 .fp8e4m3) (x7 : Vec F S1x8x64 .f32) (x8 : Vec F S8x1x64x325 .bf16) (y : S8x1x64x325.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.2.1 S1x1x64x325.size (by sl_kernel_rfl) y

end Cert.Kernel.Gen

end
-- ==== Proof.CodesK.lean ====
/- THE CODES, READ. Four consecutive images' codes of one row and lane make one 32-bit word; a shift to the top and an
   arithmetic shift back cut one of them out, widened with its sign. Rows past the sequence (and, in the last tile, lanes past
   it) are zero, so what the body computes does not depend on what a buffer holds there. -/
module

public import proofs.«01_k».proof.Proof.OutK
public import Idealize.ShloMosaic.Lib.BitcastFour
public import Idealize.ShloMosaic.Lib.Pointwise

@[expose] public section

set_option maxRecDepth 16384

noncomputable section

namespace Cert.Kernel.Gen

open Cert.Kernel Idealize.ShloMosaic Idealize.ShloMosaic.TcCoe

variable {F : FTy → Type} [FloatOps F]

/-- Bit `q` of the word of images 0 to 3 at row `r`, lane `l`, is bit `q % 8` of image `0 + q / 8`'s code there. -/
theorem word0_getLsbD (x : Vec F S1x336x8x128 .i8) (r : Fin 336) (l : Fin 128) (q : Nat) (hq : q < 32) :
    (Img.word0 x (ix2 r l)).getLsbD q = BitVec.getLsbD (w := 8) (x (ix4 (0 : Fin 1) r (⟨0 + q / 8, by omega⟩ : Fin 8) l)) (q % 8) := by
  unfold Img.word0
  pointwise []
  refine (bitcast_8_32_getLsbD x _ _ q hq).trans ?_
  congr 2
  funext a
  apply Fin.ext
  match a with
  | ⟨0, _⟩ => exact Shape.Bitcasts.srcIdx_other _ _ _ _ _ (show ¬ (0 + 2 = 4) by omega)
  | ⟨1, _⟩ => exact Shape.Bitcasts.srcIdx_other _ _ _ _ _ (show ¬ (1 + 2 = 4) by omega)
  | ⟨2, _⟩ => exact (Shape.Bitcasts.srcIdx_row bitcasts_S1x336x8x128_w8_S1x336x2x128_w32 _ _ _ _ (show 2 + 2 = 4 from rfl)).trans (by show 4 * 0 + q / 8 = q / 8; omega)
  | ⟨3, _⟩ => exact Shape.Bitcasts.srcIdx_other _ _ _ _ _ (show ¬ (3 + 2 = 4) by omega)

/-- Bit `q` of the word of images 4 to 7 at row `r`, lane `l`, is bit `q % 8` of image `4 + q / 8`'s code there. -/
theorem word1_getLsbD (x : Vec F S1x336x8x128 .i8) (r : Fin 336) (l : Fin 128) (q : Nat) (hq : q < 32) :
    (Img.word1 x (ix2 r l)).getLsbD q = BitVec.getLsbD (w := 8) (x (ix4 (0 : Fin 1) r (⟨4 + q / 8, by omega⟩ : Fin 8) l)) (q % 8) := by
  unfold Img.word1
  pointwise []
  refine (bitcast_8_32_getLsbD x _ _ q hq).trans ?_
  congr 2
  funext a
  apply Fin.ext
  match a with
  | ⟨0, _⟩ => exact Shape.Bitcasts.srcIdx_other _ _ _ _ _ (show ¬ (0 + 2 = 4) by omega)
  | ⟨1, _⟩ => exact Shape.Bitcasts.srcIdx_other _ _ _ _ _ (show ¬ (1 + 2 = 4) by omega)
  | ⟨2, _⟩ => exact (Shape.Bitcasts.srcIdx_row bitcasts_S1x336x8x128_w8_S1x336x2x128_w32 _ _ _ _ (show 2 + 2 = 4 from rfl)).trans (by show 4 * 1 + q / 8 = 4 + q / 8; omega)
  | ⟨3, _⟩ => exact Shape.Bitcasts.srcIdx_other _ _ _ _ _ (show ¬ (3 + 2 = 4) by omega)

/-- A word shifted left by `24 - 8 k` and arithmetically right by 24 is its byte `k`, widened with its sign. -/
theorem cut_byte (w : BitVec 32) (y : BitVec 8) (k : Nat) (hk : k < 4) (sh : BitVec 32) (hs : sh.toNat = 24 - 8 * k)
    (h : ∀ i, i < 8 → w.getLsbD (8 * k + i) = y.getLsbD i) :
    IntOp.shrsi .vector (IntOp.shli .vector w sh) 24#32 = y.signExtend 32 := by
  have e1 : IntOp.shli .vector w sh = w <<< (24 - 8 * k) := by
    unfold IntOp.shli
    rw [if_pos (by omega), BitVec.shiftLeft_eq', hs]
  have e2 : ∀ z : BitVec 32, IntOp.shrsi .vector z 24#32 = z.sshiftRight 24 := fun z => by
    unfold IntOp.shrsi
    rw [if_pos (by decide)]
    rfl
  rw [e1, e2]
  apply BitVec.eq_of_getLsbD_eq
  intro i hi
  simp only [BitVec.getLsbD_signExtend, BitVec.getLsbD_sshiftRight, BitVec.getLsbD_shiftLeft, BitVec.msb_eq_getLsbD_last]
  have h3 : ¬ (32 ≤ i) := by omega
  by_cases hi8 : i < 8
  · have e : 24 + i - (24 - 8 * k) = 8 * k + i := by omega
    have h1 : 24 + i < 32 := by omega
    have h2 : ¬ (24 + i < 24 - 8 * k) := by omega
    simp [h3, hi8, h1, h2, e, h i hi8, hi]
  · have e : 31 - (24 - 8 * k) = 8 * k + 7 := by omega
    have h1 : ¬ (24 + i < 32) := by omega
    have h2 : ¬ (31 < 24 - 8 * k) := by omega
    simp [h3, hi8, h1, h2, e, h 7 (by omega), hi]

/-- The row mask, read: one exactly on the rows of the sequence. -/
theorem rowMask_apply (r : Fin 336) : k0_pay5 (ix2 r (0 : Fin 1)) = if r.val < 325 then 1#1 else 0#1 := by
  revert r
  decide +kernel

/-- The lane mask, read: one exactly on the lanes of the sequence. -/
theorem laneMask_apply (l : Fin 128) : k0_pay4 (ix2 (0 : Fin 1) l) = if l.val < 69 then 1#1 else 0#1 := by
  revert l
  decide +kernel

/-- A tile of codes, read: zero past the sequence. -/
theorem code_apply (w : IVec S336x128 32) (sh : BitVec 32) (r : Fin 336) (l : Fin 128) :
    Img.code w sh (ix2 r l) = if r.val < 325 then IntOp.shrsi .vector (IntOp.shli .vector (w (ix2 r l)) sh) 24#32 else 0#32 := by
  unfold Img.code
  pointwise []
  rw [rowMask_apply]
  split <;> rfl

/-- The last tile of codes, read: zero past the sequence. -/
theorem codeTail_apply (w : IVec S336x128 32) (sh : BitVec 32) (r : Fin 336) (l : Fin 128) :
    Img.codeTail w sh (ix2 r l) = if l.val < 69 then Img.code w sh (ix2 r l) else 0#32 := by
  unfold Img.codeTail
  pointwise []
  rw [laneMask_apply]
  split <;> rfl

/-- Image `b`'s code at a row and lane: the byte there widened with its sign, zero past the sequence. -/
theorem codes_apply (b : Fin 8) (x : Vec F S1x336x8x128 .i8) (r : Fin 336) (l : Fin 128) :
    codes (F := F) b x (ix2 r l) = if r.val < 325 then BitVec.signExtend (w := 8) 32 (x (ix4 (0 : Fin 1) r b l)) else 0#32 := by
  match b with
  | 0 =>
    refine (code_apply _ _ r l).trans ?_
    split
    · exact cut_byte _ _ 0 (by omega) _ rfl fun i hi => (word0_getLsbD x r l (8 * 0 + i) (by omega)).trans
        (by rw [show (8 * 0 + i) % 8 = i by omega]; congr 3; exact Fin.ext (show 0 + (8 * 0 + i) / 8 = 0 by omega))
    · rfl
  | 1 =>
    refine (code_apply _ _ r l).trans ?_
    split
    · exact cut_byte _ _ 1 (by omega) _ rfl fun i hi => (word0_getLsbD x r l (8 * 1 + i) (by omega)).trans
        (by rw [show (8 * 1 + i) % 8 = i by omega]; congr 3; exact Fin.ext (show 0 + (8 * 1 + i) / 8 = 1 by omega))
    · rfl
  | 2 =>
    refine (code_apply _ _ r l).trans ?_
    split
    · exact cut_byte _ _ 2 (by omega) _ rfl fun i hi => (word0_getLsbD x r l (8 * 2 + i) (by omega)).trans
        (by rw [show (8 * 2 + i) % 8 = i by omega]; congr 3; exact Fin.ext (show 0 + (8 * 2 + i) / 8 = 2 by omega))
    · rfl
  | 3 =>
    refine (code_apply _ _ r l).trans ?_
    split
    · exact cut_byte _ _ 3 (by omega) _ rfl fun i hi => (word0_getLsbD x r l (8 * 3 + i) (by omega)).trans
        (by rw [show (8 * 3 + i) % 8 = i by omega]; congr 3; exact Fin.ext (show 0 + (8 * 3 + i) / 8 = 3 by omega))
    · rfl
  | 4 =>
    refine (code_apply _ _ r l).trans ?_
    split
    · exact cut_byte _ _ 0 (by omega) _ rfl fun i hi => (word1_getLsbD x r l (8 * 0 + i) (by omega)).trans
        (by rw [show (8 * 0 + i) % 8 = i by omega]; congr 3; exact Fin.ext (show 4 + (8 * 0 + i) / 8 = 4 by omega))
    · rfl
  | 5 =>
    refine (code_apply _ _ r l).trans ?_
    split
    · exact cut_byte _ _ 1 (by omega) _ rfl fun i hi => (word1_getLsbD x r l (8 * 1 + i) (by omega)).trans
        (by rw [show (8 * 1 + i) % 8 = i by omega]; congr 3; exact Fin.ext (show 4 + (8 * 1 + i) / 8 = 5 by omega))
    · rfl
  | 6 =>
    refine (code_apply _ _ r l).trans ?_
    split
    · exact cut_byte _ _ 2 (by omega) _ rfl fun i hi => (word1_getLsbD x r l (8 * 2 + i) (by omega)).trans
        (by rw [show (8 * 2 + i) % 8 = i by omega]; congr 3; exact Fin.ext (show 4 + (8 * 2 + i) / 8 = 6 by omega))
    · rfl
  | 7 =>
    refine (code_apply _ _ r l).trans ?_
    split
    · exact cut_byte _ _ 3 (by omega) _ rfl fun i hi => (word1_getLsbD x r l (8 * 3 + i) (by omega)).trans
        (by rw [show (8 * 3 + i) % 8 = i by omega]; congr 3; exact Fin.ext (show 4 + (8 * 3 + i) / 8 = 7 by omega))
    · rfl

/-- Image `b`'s code in the last tile at a row and lane. -/
theorem codesTail_apply (b : Fin 8) (x : Vec F S1x336x8x128 .i8) (r : Fin 336) (l : Fin 128) :
    codesTail (F := F) b x (ix2 r l) = if l.val < 69 then codes (F := F) b x (ix2 r l) else 0#32 := by
  match b with
  | 0 => exact codeTail_apply _ _ r l
  | 1 => exact codeTail_apply _ _ r l
  | 2 => exact codeTail_apply _ _ r l
  | 3 => exact codeTail_apply _ _ r l
  | 4 => exact codeTail_apply _ _ r l
  | 5 => exact codeTail_apply _ _ r l
  | 6 => exact codeTail_apply _ _ r l
  | 7 => exact codeTail_apply _ _ r l

/-- Codes of tiles that agree on the sequence's rows are the same. -/
theorem codes_congr (b : Fin 8) (x x' : Vec F S1x336x8x128 .i8) (h : ∀ z : S1x336x8x128.Idx, (z 1).val < 325 → x z = x' z) :
    codes (F := F) b x = codes (F := F) b x' := by
  funext j
  obtain ⟨r, l, rfl⟩ : ∃ (r : Fin 336) (l : Fin 128), j = ix2 r l := ⟨j 0, j 1, eq_ix2 _⟩
  rw [codes_apply, codes_apply]
  split
  · rename_i hr
    rw [h _ hr]
  · rfl

/-- Codes of last tiles that agree on the sequence's rows and lanes are the same. -/
theorem codesTail_congr (b : Fin 8) (x x' : Vec F S1x336x8x128 .i8)
    (h : ∀ z : S1x336x8x128.Idx, (z 1).val < 325 → (z 3).val < 69 → x z = x' z) :
    codesTail (F := F) b x = codesTail (F := F) b x' := by
  funext j
  obtain ⟨r, l, rfl⟩ : ∃ (r : Fin 336) (l : Fin 128), j = ix2 r l := ⟨j 0, j 1, eq_ix2 _⟩
  rw [codesTail_apply, codesTail_apply]
  split
  · rename_i hl
    rw [codes_apply, codes_apply]
    split
    · rename_i hr
      rw [h _ hr hl]
    · rfl
  · rfl

end Cert.Kernel.Gen

end
-- ==== Proof.FrameK.lean ====
/- THE FRAME CERTIFICATE. The proof data of the one pipeline — after the body every input's staging buffer holds its block
   (the tiles of codes overhang the array, so theirs is filled out with zeros past the array's end) and every output's the
   block computed from the inputs' (`outDq`, `outDk`, `outDv`) —, the body's obligation, the run of @main and the frame claim.
   What a clipped tile's buffer holds past the array's end is anything; the body masks it (`codes_congr`, `codesTail_congr`). -/
module

public import proofs.«01_k».proof.Proof.CodesK
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs -/

/-- Window 0's current staging buffer. -/
abbrev ms0_0 (t : Fin cfg0.N) : Memref sig .tc .smem S12 .f32 := win0_0.stage (cfg0.slots t 0)
/-- It is whole. -/
abbrev hs0_0 (t : Fin cfg0.N) : (ms0_0 t).IsWhole := hstage0_0 ((cfg0.slots t 0).cast nbuf0_0)
/-- Window 1's current staging buffer. -/
abbrev ms0_1 (t : Fin cfg0.N) : Memref sig .tc .vmem S8x1x64x325 .bf16 := win0_1.stage (cfg0.slots t 1)
/-- It is whole. -/
abbrev hs0_1 (t : Fin cfg0.N) : (ms0_1 t).IsWhole := hstage0_1 ((cfg0.slots t 1).cast nbuf0_1)
/-- Window 2's current staging buffer. -/
abbrev ms0_2 (t : Fin cfg0.N) : Memref sig .tc .vmem S8x1x64x325 .bf16 := win0_2.stage (cfg0.slots t 2)
/-- It is whole. -/
abbrev hs0_2 (t : Fin cfg0.N) : (ms0_2 t).IsWhole := hstage0_2 ((cfg0.slots t 2).cast nbuf0_2)
/-- Window 3's current staging buffer. -/
abbrev ms0_3 (t : Fin cfg0.N) : Memref sig .tc .vmem S1x336x8x128 .i8 := win0_3.stage (cfg0.slots t 3)
/-- It is whole. -/
abbrev hs0_3 (t : Fin cfg0.N) : (ms0_3 t).IsWhole := hstage0_3 ((cfg0.slots t 3).cast nbuf0_3)
/-- Window 4's current staging buffer. -/
abbrev ms0_4 (t : Fin cfg0.N) : Memref sig .tc .vmem S1x336x8x128 .i8 := win0_4.stage (cfg0.slots t 4)
/-- It is whole. -/
abbrev hs0_4 (t : Fin cfg0.N) : (ms0_4 t).IsWhole := hstage0_4 ((cfg0.slots t 4).cast nbuf0_4)
/-- Window 5's current staging buffer. -/
abbrev ms0_5 (t : Fin cfg0.N) : Memref sig .tc .vmem S1x336x8x128 .i8 := win0_5.stage (cfg0.slots t 5)
/-- It is whole. -/
abbrev hs0_5 (t : Fin cfg0.N) : (ms0_5 t).IsWhole := hstage0_5 ((cfg0.slots t 5).cast nbuf0_5)
/-- Window 6's current staging buffer. -/
abbrev ms0_6 (t : Fin cfg0.N) : Memref sig .tc .vmem S8x1x64x325 .fp8e4m3 := win0_6.stage (cfg0.slots t 6)
/-- It is whole. -/
abbrev hs0_6 (t : Fin cfg0.N) : (ms0_6 t).IsWhole := hstage0_6 ((cfg0.slots t 6).cast nbuf0_6)
/-- Window 7's current staging buffer. -/
abbrev ms0_7 (t : Fin cfg0.N) : Memref sig .tc .vmem S1x8x64 .f32 := win0_7.stage (cfg0.slots t 7)
/-- It is whole. -/
abbrev hs0_7 (t : Fin cfg0.N) : (ms0_7 t).IsWhole := hstage0_7 ((cfg0.slots t 7).cast nbuf0_7)
/-- Window 8's current staging buffer. -/
abbrev ms0_8 (t : Fin cfg0.N) : Memref sig .tc .vmem S8x1x64x325 .bf16 := win0_8.stage (cfg0.slots t 8)
/-- It is whole. -/
abbrev hs0_8 (t : Fin cfg0.N) : (ms0_8 t).IsWhole := hstage0_8 ((cfg0.slots t 8).cast nbuf0_8)
/-- Window 9's current staging buffer. -/
abbrev ms0_9 (t : Fin cfg0.N) : Memref sig .tc .vmem S8x1x64x325 .bf16 := win0_9.stage (cfg0.slots t 9)
/-- It is whole. -/
abbrev hs0_9 (t : Fin cfg0.N) : (ms0_9 t).IsWhole := hstage0_9 ((cfg0.slots t 9).cast nbuf0_9)
/-- Window 10's current staging buffer. -/
abbrev ms0_10 (t : Fin cfg0.N) : Memref sig .tc .vmem S8x1x64x325 .bf16 := win0_10.stage (cfg0.slots t 10)
/-- It is whole. -/
abbrev hs0_10 (t : Fin cfg0.N) : (ms0_10 t).IsWhole := hstage0_10 ((cfg0.slots t 10).cast nbuf0_10)
/-- Window 11's current staging buffer. -/
abbrev ms0_11 (t : Fin cfg0.N) : Memref sig .tc .vmem S8x1x64x325 .bf16 := win0_11.stage (cfg0.slots t 11)
/-- It is whole. -/
abbrev hs0_11 (t : Fin cfg0.N) : (ms0_11 t).IsWhole := hstage0_11 ((cfg0.slots t 11).cast nbuf0_11)

/-! ## The clipped tiles -/

/-- What the transfers of the first two tiles move: all but the rows past the array's end. -/
theorem xsize3 : ∀ (t : Fin cfg0.N) (a : Fin 4), win0_3.xsize (grid0.coords t) a = (![1, 325, 8, 128] : Fin 4 → Nat) a :=
  (by decide +kernel : ∀ (t : Fin grid0.N) (a : Fin 4), _)
/-- What the transfers of the middle tile move: all but the rows past the array's end. -/
theorem xsize4 : ∀ (t : Fin cfg0.N) (a : Fin 4), win0_4.xsize (grid0.coords t) a = (![1, 325, 8, 128] : Fin 4 → Nat) a :=
  (by decide +kernel : ∀ (t : Fin grid0.N) (a : Fin 4), _)
/-- What the transfers of the last tile move: all but the rows and lanes past the array's end. -/
theorem xsize5 : ∀ (t : Fin cfg0.N) (a : Fin 4), win0_5.xsize (grid0.coords t) a = (![1, 325, 8, 69] : Fin 4 → Nat) a :=
  (by decide +kernel : ∀ (t : Fin grid0.N) (a : Fin 4), _)

/-- An index of the sequence is one that the transfer of window 3's tile moves, -/
theorem moved3 (t : Fin cfg0.N) (z : S1x336x8x128.Idx) (h1 : (z 1).val < 325) : win0_3.moved (grid0.coords t) z = true :=
  (win0_3.moved_iff _ z).mpr fun a => by
    rw [xsize3]
    match a with
    | ⟨0, _⟩ => exact (z 0).isLt
    | ⟨1, _⟩ => exact h1
    | ⟨2, _⟩ => exact (z 2).isLt
    | ⟨3, _⟩ => exact (z 3).isLt
/-- so there the buffer's contents do not depend on what filled it out. -/
theorem fill3 (t : Fin cfg0.N) (d d' : S1x336x8x128.Idx → Elt F .i8) (g) (z : S1x336x8x128.Idx) (h1 : (z 1).val < 325) :
    win0_3.fill (grid0.coords t) d g z = win0_3.fill (grid0.coords t) d' g z := by
  have hm := moved3 t z h1
  unfold Window.fill
  rw [dif_pos hm, dif_pos hm]
/-- Window 3's tile at point `t`, filled out with zeros. -/
def tile3 (c : Dev nD) (t : Fin cfg0.N) : Vec F S1x336x8x128 .i8 := win0_3.fill (grid0.coords t) (fun _ => (0#8 : BitVec 8)) (iblk m c 3 t)
/-- What the body finds there, filled out with anything, cuts to the same block. -/
theorem cut_tile3 (c : Dev nD) (t : Fin cfg0.N) : win0_3.cut (grid0.coords t) (tile3 m c t) = iblk m c 3 t := win0_3.cut_fill _ _ _

/-- An index of the sequence is one that the transfer of window 4's tile moves, -/
theorem moved4 (t : Fin cfg0.N) (z : S1x336x8x128.Idx) (h1 : (z 1).val < 325) : win0_4.moved (grid0.coords t) z = true :=
  (win0_4.moved_iff _ z).mpr fun a => by
    rw [xsize4]
    match a with
    | ⟨0, _⟩ => exact (z 0).isLt
    | ⟨1, _⟩ => exact h1
    | ⟨2, _⟩ => exact (z 2).isLt
    | ⟨3, _⟩ => exact (z 3).isLt
/-- so there the buffer's contents do not depend on what filled it out. -/
theorem fill4 (t : Fin cfg0.N) (d d' : S1x336x8x128.Idx → Elt F .i8) (g) (z : S1x336x8x128.Idx) (h1 : (z 1).val < 325) :
    win0_4.fill (grid0.coords t) d g z = win0_4.fill (grid0.coords t) d' g z := by
  have hm := moved4 t z h1
  unfold Window.fill
  rw [dif_pos hm, dif_pos hm]
/-- Window 4's tile at point `t`, filled out with zeros. -/
def tile4 (c : Dev nD) (t : Fin cfg0.N) : Vec F S1x336x8x128 .i8 := win0_4.fill (grid0.coords t) (fun _ => (0#8 : BitVec 8)) (iblk m c 4 t)
/-- What the body finds there, filled out with anything, cuts to the same block. -/
theorem cut_tile4 (c : Dev nD) (t : Fin cfg0.N) : win0_4.cut (grid0.coords t) (tile4 m c t) = iblk m c 4 t := win0_4.cut_fill _ _ _

/-- An index of the sequence is one that the transfer of window 5's tile moves, -/
theorem moved5 (t : Fin cfg0.N) (z : S1x336x8x128.Idx) (h1 : (z 1).val < 325) (h3 : (z 3).val < 69) : win0_5.moved (grid0.coords t) z = true :=
  (win0_5.moved_iff _ z).mpr fun a => by
    rw [xsize5]
    match a with
    | ⟨0, _⟩ => exact (z 0).isLt
    | ⟨1, _⟩ => exact h1
    | ⟨2, _⟩ => exact (z 2).isLt
    | ⟨3, _⟩ => exact h3
/-- so there the buffer's contents do not depend on what filled it out. -/
theorem fill5 (t : Fin cfg0.N) (d d' : S1x336x8x128.Idx → Elt F .i8) (g) (z : S1x336x8x128.Idx) (h1 : (z 1).val < 325) (h3 : (z 3).val < 69) :
    win0_5.fill (grid0.coords t) d g z = win0_5.fill (grid0.coords t) d' g z := by
  have hm := moved5 t z h1 h3
  unfold Window.fill
  rw [dif_pos hm, dif_pos hm]
/-- Window 5's tile at point `t`, filled out with zeros. -/
def tile5 (c : Dev nD) (t : Fin cfg0.N) : Vec F S1x336x8x128 .i8 := win0_5.fill (grid0.coords t) (fun _ => (0#8 : BitVec 8)) (iblk m c 5 t)
/-- What the body finds there, filled out with anything, cuts to the same block. -/
theorem cut_tile5 (c : Dev nD) (t : Fin cfg0.N) : win0_5.cut (grid0.coords t) (tile5 m c t) = iblk m c 5 t := win0_5.cut_fill _ _ _

/-- Output 9's block at point `t`. -/
def oblkDq (c : Dev nD) (t : Fin cfg0.N) : Vec F S8x1x64x325 .bf16 :=
  outDq (scale (grid0.coords t) (iblk m c 0 t)) (iblk m c 2 t) (tile3 m c t) (tile4 m c t) (tile5 m c t) (iblk m c 6 t) (iblk m c 7 t) (iblk m c 8 t)
/-- It is what the body computes from tiles filled out with anything. -/
theorem oblkDq_eq (c : Dev nD) (t : Fin cfg0.N) (d3 d4 d5 : S1x336x8x128.Idx → Elt F .i8) :
    outDq (scale (grid0.coords t) (iblk m c 0 t)) (iblk m c 2 t) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) = oblkDq m c t := by
  funext y
  unfold oblkDq outDq
  have h3 : codes (F := F) (y 0) (win0_3.fill (grid0.coords t) d3 (iblk m c 3 t)) = codes (F := F) (y 0) (tile3 m c t) :=
    codes_congr (F := F) _ _ _ (fun z h => fill3 t d3 _ _ z h)
  have h4 : codes (F := F) (y 0) (win0_4.fill (grid0.coords t) d4 (iblk m c 4 t)) = codes (F := F) (y 0) (tile4 m c t) :=
    codes_congr (F := F) _ _ _ (fun z h => fill4 t d4 _ _ z h)
  have h5 : codesTail (F := F) (y 0) (win0_5.fill (grid0.coords t) d5 (iblk m c 5 t)) = codesTail (F := F) (y 0) (tile5 m c t) :=
    codesTail_congr (F := F) _ _ _ (fun z h h' => fill5 t d5 _ _ z h h')
  rw [h3, h4, h5]

/-- Output 10's block at point `t`. -/
def oblkDk (c : Dev nD) (t : Fin cfg0.N) : Vec F S8x1x64x325 .bf16 :=
  outDk (scale (grid0.coords t) (iblk m c 0 t)) (iblk m c 1 t) (tile3 m c t) (tile4 m c t) (tile5 m c t) (iblk m c 6 t) (iblk m c 7 t) (iblk m c 8 t)
/-- It is what the body computes from tiles filled out with anything. -/
theorem oblkDk_eq (c : Dev nD) (t : Fin cfg0.N) (d3 d4 d5 : S1x336x8x128.Idx → Elt F .i8) :
    outDk (scale (grid0.coords t) (iblk m c 0 t)) (iblk m c 1 t) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) = oblkDk m c t := by
  funext y
  unfold oblkDk outDk
  have h3 : codes (F := F) (y 0) (win0_3.fill (grid0.coords t) d3 (iblk m c 3 t)) = codes (F := F) (y 0) (tile3 m c t) :=
    codes_congr (F := F) _ _ _ (fun z h => fill3 t d3 _ _ z h)
  have h4 : codes (F := F) (y 0) (win0_4.fill (grid0.coords t) d4 (iblk m c 4 t)) = codes (F := F) (y 0) (tile4 m c t) :=
    codes_congr (F := F) _ _ _ (fun z h => fill4 t d4 _ _ z h)
  have h5 : codesTail (F := F) (y 0) (win0_5.fill (grid0.coords t) d5 (iblk m c 5 t)) = codesTail (F := F) (y 0) (tile5 m c t) :=
    codesTail_congr (F := F) _ _ _ (fun z h h' => fill5 t d5 _ _ z h h')
  rw [h3, h4, h5]

/-- Output 11's block at point `t`. -/
def oblkDv (c : Dev nD) (t : Fin cfg0.N) : Vec F S8x1x64x325 .bf16 :=
  outDv (scale (grid0.coords t) (iblk m c 0 t)) (tile3 m c t) (tile4 m c t) (tile5 m c t) (iblk m c 8 t)
/-- It is what the body computes from tiles filled out with anything. -/
theorem oblkDv_eq (c : Dev nD) (t : Fin cfg0.N) (d3 d4 d5 : S1x336x8x128.Idx → Elt F .i8) :
    outDv (scale (grid0.coords t) (iblk m c 0 t)) (win0_3.fill (grid0.coords t) d3 (iblk m c 3 t)) (win0_4.fill (grid0.coords t) d4 (iblk m c 4 t)) (win0_5.fill (grid0.coords t) d5 (iblk m c 5 t)) (iblk m c 8 t) = oblkDv m c t := by
  funext y
  unfold oblkDv outDv
  have h3 : codes (F := F) (y 0) (win0_3.fill (grid0.coords t) d3 (iblk m c 3 t)) = codes (F := F) (y 0) (tile3 m c t) :=
    codes_congr (F := F) _ _ _ (fun z h => fill3 t d3 _ _ z h)
  have h4 : codes (F := F) (y 0) (win0_4.fill (grid0.coords t) d4 (iblk m c 4 t)) = codes (F := F) (y 0) (tile4 m c t) :=
    codes_congr (F := F) _ _ _ (fun z h => fill4 t d4 _ _ z h)
  have h5 : codesTail (F := F) (y 0) (win0_5.fill (grid0.coords t) d5 (iblk m c 5 t)) = codesTail (F := F) (y 0) (tile5 m c t) :=
    codesTail_congr (F := F) _ _ _ (fun z h h' => fill5 t d5 _ _ z h h')
  rw [h3, h4, h5]

/-! ## The pipeline's proof data -/

/-- The proof data of the one pipeline on core `c`: the arrays as the region finds them (`V`); after the body at point `t` each
    input's buffer at its block and the outputs' at the computed blocks; nothing owed; each input's share of its array (the full
    share of the codes' array, which three windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tile3 m c t
    | ⟨4, _⟩ => tile4 m c t
    | ⟨5, _⟩ => tile5 m c t
    | ⟨6, _⟩ => iblk m c 6 t
    | ⟨7, _⟩ => iblk m c 7 t
    | ⟨8, _⟩ => iblk m c 8 t
    | ⟨9, _⟩ => oblkDq m c t
    | ⟨10, _⟩ => oblkDk m c t
    | ⟨11, _⟩ => oblkDv m c t
  Φ _ := Pipeline.ΦA spec0 c
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
/-- Input window 1 holds its block after a point. -/
theorem after0_1 (c : Dev nD) (t : Fin cfg0.N) : (dats m 0 c).after 1 t = iblk m c 1 t := by dsimp only [dats]
/-- Input window 2 holds its block after a point. -/
theorem after0_2 (c : Dev nD) (t : Fin cfg0.N) : (dats m 0 c).after 2 t = iblk m c 2 t := by dsimp only [dats]
/-- Input window 3 holds its block after a point. -/
theorem after0_3 (c : Dev nD) (t : Fin cfg0.N) : (dats m 0 c).after 3 t = tile3 m c t := by dsimp only [dats]
/-- Input window 4 holds its block after a point. -/
theorem after0_4 (c : Dev nD) (t : Fin cfg0.N) : (dats m 0 c).after 4 t = tile4 m c t := by dsimp only [dats]
/-- Input window 5 holds its block after a point. -/
theorem after0_5 (c : Dev nD) (t : Fin cfg0.N) : (dats m 0 c).after 5 t = tile5 m c t := by dsimp only [dats]
/-- Input window 6 holds its block after a point. -/
theorem after0_6 (c : Dev nD) (t : Fin cfg0.N) : (dats m 0 c).after 6 t = iblk m c 6 t := by dsimp only [dats]
/-- Input window 7 holds its block after a point. -/
theorem after0_7 (c : Dev nD) (t : Fin cfg0.N) : (dats m 0 c).after 7 t = iblk m c 7 t := by dsimp only [dats]
/-- Input window 8 holds its block after a point. -/
theorem after0_8 (c : Dev nD) (t : Fin cfg0.N) : (dats m 0 c).after 8 t = iblk m c 8 t := by dsimp only [dats]
/-- What output window 9 holds after a point. -/
theorem after0_9 (c : Dev nD) (t : Fin cfg0.N) : (dats m 0 c).after 9 t = oblkDq m c t := by dsimp only [dats]
/-- What output window 10 holds after a point. -/
theorem after0_10 (c : Dev nD) (t : Fin cfg0.N) : (dats m 0 c).after 10 t = oblkDk m c t := by dsimp only [dats]
/-- What output window 11 holds after a point. -/
theorem after0_11 (c : Dev nD) (t : Fin cfg0.N) : (dats m 0 c).after 11 t = oblkDv m c t := by dsimp only [dats]

/-! What the body finds in the inputs' buffers. -/
theorem before0_0 (c : Dev nD) (t : Fin cfg0.N) (d) : (dats m 0 c).before 0 t d = iblk m c 0 t :=
  before0_0_of m (dats m 0 c) (A_eq m c 0) (after0_0 m c) t d
/-- Input window 1 holds its block before a point. -/
theorem before0_1 (c : Dev nD) (t : Fin cfg0.N) (d) : (dats m 0 c).before 1 t d = iblk m c 1 t :=
  before0_1_of m (dats m 0 c) (A_eq m c 1) (after0_1 m c) t d
/-- Input window 2 holds its block before a point. -/
theorem before0_2 (c : Dev nD) (t : Fin cfg0.N) (d) : (dats m 0 c).before 2 t d = iblk m c 2 t :=
  before0_2_of m (dats m 0 c) (A_eq m c 2) (after0_2 m c) t d
/-- Input window 3 holds its block before a point. -/
theorem before0_3 (c : Dev nD) (t : Fin cfg0.N) (d) : (dats m 0 c).before 3 t d = win0_3.fill (grid0.coords t) d (iblk m c 3 t) := by
  unfold Dat.before
  rw [if_pos (fetch0_3 t)]
  unfold Dat.fetched Dat.blockOf iblk
  rw [A_eq]
/-- Input window 4 holds its block before a point. -/
theorem before0_4 (c : Dev nD) (t : Fin cfg0.N) (d) : (dats m 0 c).before 4 t d = win0_4.fill (grid0.coords t) d (iblk m c 4 t) := by
  unfold Dat.before
  rw [if_pos (fetch0_4 t)]
  unfold Dat.fetched Dat.blockOf iblk
  rw [A_eq]
/-- Input window 5 holds its block before a point. -/
theorem before0_5 (c : Dev nD) (t : Fin cfg0.N) (d) : (dats m 0 c).before 5 t d = win0_5.fill (grid0.coords t) d (iblk m c 5 t) := by
  unfold Dat.before
  rw [if_pos (fetch0_5 t)]
  unfold Dat.fetched Dat.blockOf iblk
  rw [A_eq]
/-- Input window 6 holds its block before a point. -/
theorem before0_6 (c : Dev nD) (t : Fin cfg0.N) (d) : (dats m 0 c).before 6 t d = iblk m c 6 t :=
  before0_6_of m (dats m 0 c) (A_eq m c 6) (after0_6 m c) t d
/-- Input window 7 holds its block before a point. -/
theorem before0_7 (c : Dev nD) (t : Fin cfg0.N) (d) : (dats m 0 c).before 7 t d = iblk m c 7 t :=
  before0_7_of m (dats m 0 c) (A_eq m c 7) (after0_7 m c) t d
/-- Input window 8 holds its block before a point. -/
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))
/-- and what it returns: a clipped tile's buffer on the part inside the array. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare (win0_3.fill (grid0.coords t) d (win0_3.cut (grid0.coords t) ((dats m 0 c).after 3 t))))
    ∗ (∃ d, owns (c : Thread nD τ) (ms0_4 t) fullShare (win0_4.fill (grid0.coords t) d (win0_4.cut (grid0.coords t) ((dats m 0 c).after 4 t))))
    ∗ (∃ d, owns (c : Thread nD τ) (ms0_5 t) fullShare (win0_5.fill (grid0.coords t) d (win0_5.cut (grid0.coords t) ((dats m 0 c).after 5 t))))
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 1600000 in
/-- The body at any point: the run applies to what the buffers hold; what it leaves in an output's buffer is that output's block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11,
    cut_tile3, cut_tile4, cut_tile5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ (iblk m c 0 t) (iblk m c 1 t) (iblk m c 2 t) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, ⟨%e9, H9⟩, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexists d3; iexact H3
  isplitl [H4]; · iexists d4; iexact H4
  isplitl [H5]; · iexists d5; iexact H5
  isplitl [H6]; · iexact H6
  isplitl [H7]; · iexact H7
  isplitl [H8]; · iexact H8
  isplitl [H9]
  · unfold owns; iexists _; isplitr
    swap; · iexact H9
    ipureintro
    rw [← oblkDq_eq m c t d3 d4 d5]
    funext y
    exact View.read_writes_apply_of_pieces _ _ _ _ (piecesDq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t)).mem y (coverDq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) y)
  isplitl [H10]
  · unfold owns; iexists _; isplitr
    swap; · iexact H10
    ipureintro
    rw [← oblkDk_eq m c t d3 d4 d5]
    funext y
    exact View.read_writes_apply_of_pieces _ _ _ _ (piecesDk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t)).mem y (coverDk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) y)
  unfold owns; iexists _; isplitr
  swap; · iexact H11
  ipureintro
  rw [← oblkDv_eq m c t d3 d4 d5]
  funext y
  exact View.read_writes_apply_of_pieces _ _ _ _ (piecesDv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t)).mem y (coverDv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) y)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## The run and the frame -/

-- the launch theorem's implicit arguments are found by unifying its conclusion with this one, which takes unfolding plain
-- definitions in a metavariable's type
set_option backward.isDefEq.respectTransparency.types false in
/-- THE LAUNCH: every weakly fair execution of @main terminates, and every final state has every array of the pipeline at what
    the library computes from the proof data, every other buffer at what the host operations leave, and every semaphore counter
    at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := body_obligation m) (hq := fun _ _ _ => rfl) (howed := fun _ _ => rfl) (V₀ := V0 m) (opss := [hostOps1])
    (hsub := sfx_sub) (hfresh := sfx_fresh) (hkeep := sfx_keeps) (hmain := hmain m Variants.none) (hA := A_eq m) (hΦ := fun _ _ => rfl)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Gen

end
-- ==== Proof.ImgKI.lean ====
/- WHAT THE BODY COMPUTES FOR ONE IMAGE of its group of eight, as functions of what it loads: the codes cut out of the
   packed words and masked, the padded operands, the four products, and the three blocks stored. -/
module

public import proofs.«01_k».proof.Proof.Gen.KernelIdeal.Skeleton

@[expose] public section

noncomputable section

namespace Cert.KernelIdeal.Img

open Cert.KernelIdeal Cert.KernelIdeal.Gen Idealize.ShloMosaic Idealize.SL.Sem

variable {F : FTy → Type} [FloatOps F]

/-- The words of a tile of codes that hold images 0 to 3: rows of the tile by lanes. -/
def word0 (x : Vec F S1x336x8x128 .i8) : IVec S336x128 32 :=
  shapeCast S336x128 (extractStridedSlice S1x336x1x128 ![0, 0, 0, 0] (bitcast S1x336x2x128 32 (shapeCast S1x336x8x128 (show IVec S1x336x8x128 8 from x) shapeCasts_S1x336x8x128_S1x336x8x128) bitcasts_S1x336x8x128_w8_S1x336x2x128_w32) slices_S1x336x2x128_o0_0_0_0_S1x336x1x128) shapeCasts_S1x336x1x128_S336x128

/-- The words of a tile of codes that hold images 4 to 7. -/
def word1 (x : Vec F S1x336x8x128 .i8) : IVec S336x128 32 :=
  shapeCast S336x128 (extractStridedSlice S1x336x1x128 ![0, 0, 1, 0] (bitcast S1x336x2x128 32 (shapeCast S1x336x8x128 (show IVec S1x336x8x128 8 from x) shapeCasts_S1x336x8x128_S1x336x8x128) bitcasts_S1x336x8x128_w8_S1x336x2x128_w32) slices_S1x336x2x128_o0_0_1_0_S1x336x1x128) shapeCasts_S1x336x1x128_S336x128

/-- One signed byte of each word (`sh` shifts it to the top), zero on the rows past the sequence. -/
def code (w : IVec S336x128 32) (sh : BitVec 32) : IVec S336x128 32 :=
  select (broadcastTo S336x128 (shapeCast S336x1 k0_pay5 shapeCasts_S336x1_S336x1) broadcasts_S336x1_S336x128)
    (shrsi (shli w (broadcast S336x128 sh)) (broadcast S336x128 24#32)) (broadcast S336x128 0#32)

/-- The same on the last tile, zero also on the lanes past the sequence. -/
def codeTail (w : IVec S336x128 32) (sh : BitVec 32) : IVec S336x128 32 :=
  select (broadcastTo S336x128 (shapeCast S1x128 k0_pay4 shapeCasts_S1x128_S1x128) broadcasts_S1x128_S336x128)
    (code w sh) (broadcast S336x128 0#32)

/-- An operand padded with zeros from 325 to 384 lanes. -/
def pad (x : FVec F S64x325 .bf16) : FVec F S64x384 .bf16 :=
  concatenate S64x384 1 [⟨S64x325, x⟩, ⟨S64x59, broadcast S64x59 (Scalar.ofBits .bf16 0x0000#16)⟩] concatenates_S64x325_S64x59_S64x384_d1

/-- A loaded block as a matrix. -/
def mat {φ : FTy} (x : FVec F S1x1x64x325 φ) : FVec F S64x325 φ := shapeCast S64x325 x shapeCasts_S1x1x64x325_S64x325

/-- The values of one image: codes times scales. -/
def vals (v : Vec F S1x1x64x325 .fp8e4m3) (vs : Vec F S1x1x64 .f32) : FVec F S64x325 .bf16 :=
  mulf (extf .bf16 (mat (φ := .fp8e4m3) v) bitsLt_fp8e4m3_bf16)
    (broadcastTo S64x325 (truncf .bf16 (transpose S64x1 [1, 0] (shapeCast S1x64 (show FVec F S1x1x64 .f32 from vs) shapeCasts_S1x1x64_S1x64) transposes_S1x64_p1_0_S64x1) bitsLt_bf16_f32) broadcasts_S64x1_S64x325)

/-- The gradient of the probabilities: rows (padded to 336) by columns (padded to 384). -/
def dp (d : Vec F S1x1x64x325 .bf16) (v : Vec F S1x1x64x325 .fp8e4m3) (vs : Vec F S1x1x64 .f32) : FVec F S336x384 .f32 :=
  matmul dot_S64x336_S64x384_S336x384_0_0_1_1_n_n none
    (extractStridedSlice S64x336 ![0, 0] (pad (mat (φ := .bf16) d)) slices_S64x384_o0_0_S64x336) (pad (vals v vs))
    (constant S336x384 .f32 0x00000000#32)

/-- The three column tiles of the gradient of the probabilities. -/
def dp0 (x : FVec F S336x384 .f32) : FVec F S336x128 .f32 := extractStridedSlice S336x128 ![0, 0] x slices_S336x384_o0_0_S336x128
/-- Its middle tile of columns. -/
def dp1 (x : FVec F S336x384 .f32) : FVec F S336x128 .f32 := extractStridedSlice S336x128 ![0, 128] x slices_S336x384_o0_128_S336x128
/-- Its last tile of columns. -/
def dp2 (x : FVec F S336x384 .f32) : FVec F S336x128 .f32 := extractStridedSlice S336x128 ![0, 256] x slices_S336x384_o0_256_S336x128

/-- A tile of probabilities: codes times the head's scale. -/
def prob (ps : Elt F .f32) (c : IVec S336x128 32) : FVec F S336x128 .f32 :=
  mulf (sitofp .f32 c) (broadcast S336x128 (show F .f32 from ps))

/-- A tile of codes at the products' width. -/
def codeB (c : IVec S336x128 32) : FVec F S336x128 .bf16 := truncf .bf16 (sitofp .f32 c : FVec F S336x128 .f32) bitsLt_bf16_f32

/-- Each row's sum of gradient times probability, as a column. -/
def rowSum (x : FVec F S336x384 .f32) (p0 p1 p2 : FVec F S336x128 .f32) : FVec F S336x1 .f32 :=
  shapeCast S336x1 (multiReduction .add [1] S336 (addf (addf (mulf (dp0 x) p0) (mulf (dp1 x) p1)) (mulf (dp2 x) p2)) 0x00000000#32 reduces_S336x128_S336 (.inl rfl) rfl) shapeCasts_S336_S336x1

/-- A tile of the gradient of the scores. -/
def dsTile (p y : FVec F S336x128 .f32) (s : FVec F S336x1 .f32) : FVec F S336x128 .bf16 :=
  truncf .bf16 (mulf p (subf y (broadcastTo S336x128 s broadcasts_S336x1_S336x128))) bitsLt_bf16_f32

/-- Three tiles side by side. -/
def cat (a b c : FVec F S336x128 .bf16) : FVec F S336x384 .bf16 :=
  concatenate S336x384 1 [⟨S336x128, a⟩, ⟨S336x128, b⟩, ⟨S336x128, c⟩] concatenates_S336x128_S336x128_S336x128_S336x384_d1

/-- The gradient of the scores of one image. -/
def ds (ps : Elt F .f32) (c0 c1 c2 : IVec S336x128 32) (x : FVec F S336x384 .f32) : FVec F S336x384 .bf16 :=
  cat (dsTile (prob ps c0) (dp0 x) (rowSum x (prob ps c0) (prob ps c1) (prob ps c2)))
    (dsTile (prob ps c1) (dp1 x) (rowSum x (prob ps c0) (prob ps c1) (prob ps c2)))
    (dsTile (prob ps c2) (dp2 x) (rowSum x (prob ps c0) (prob ps c1) (prob ps c2)))

/-- A stored block: a matrix rounded. -/
def store (x : FVec F S64x325 .f32) : FVec F S1x1x64x325 .bf16 :=
  shapeCast S1x1x64x325 (truncf .bf16 x bitsLt_bf16_f32) shapeCasts_S64x325_S1x1x64x325

/-- One image's block of the gradient of the queries. -/
def dq (ps : Elt F .f32) (c0 c1 c2 : IVec S336x128 32) (k d : Vec F S1x1x64x325 .bf16) (v : Vec F S1x1x64x325 .fp8e4m3) (vs : Vec F S1x1x64 .f32) : FVec F S1x1x64x325 .bf16 :=
  store (extractStridedSlice S64x325 ![0, 0]
    (mulf (matmul dot_S64x384_S336x384_S64x336_1_1_0_0_n_n none (pad (mat (φ := .bf16) k)) (ds ps c0 c1 c2 (dp d v vs)) (constant S64x336 .f32 0x00000000#32))
      (broadcast S64x336 (Scalar.ofBits .f32 0x3E000000#32))) slices_S64x336_o0_0_S64x325)

/-- One image's block of the gradient of the keys. -/
def dk (ps : Elt F .f32) (c0 c1 c2 : IVec S336x128 32) (q d : Vec F S1x1x64x325 .bf16) (v : Vec F S1x1x64x325 .fp8e4m3) (vs : Vec F S1x1x64 .f32) : FVec F S1x1x64x325 .bf16 :=
  store (extractStridedSlice S64x325 ![0, 0]
    (mulf (matmul dot_S64x336_S336x384_S64x384_1_0_0_1_n_n none (extractStridedSlice S64x336 ![0, 0] (pad (mat (φ := .bf16) q)) slices_S64x384_o0_0_S64x336) (ds ps c0 c1 c2 (dp d v vs)) (constant S64x384 .f32 0x00000000#32))
      (broadcast S64x384 (Scalar.ofBits .f32 0x3E000000#32))) slices_S64x384_o0_0_S64x325)

/-- One image's block of the gradient of the values. -/
def dv (ps : Elt F .f32) (c0 c1 c2 : IVec S336x128 32) (d : Vec F S1x1x64x325 .bf16) : FVec F S1x1x64x325 .bf16 :=
  store (extractStridedSlice S64x325 ![0, 0]
    (mulf (matmul dot_S64x336_S336x384_S64x384_1_0_0_1_n_n none (extractStridedSlice S64x336 ![0, 0] (pad (mat (φ := .bf16) d)) slices_S64x384_o0_0_S64x336) (cat (codeB c0) (codeB c1) (codeB c2)) (constant S64x384 .f32 0x00000000#32))
      (broadcast S64x384 (show F .f32 from ps))) slices_S64x384_o0_0_S64x325)

end Cert.KernelIdeal.Img

end
-- ==== Proof.RunKI.lean ====
/- THE BODY'S RUN. On whole staging memrefs — the inputs' at given contents, the outputs' at anything — the kernel's body
   runs to the end and leaves the inputs as they were and each output's buffer with a list of pieces written to it. The
   pieces are the witness that the run finds (`kernelRun0_A`). -/
module

public import proofs.«01_k».proof.Proof.Gen.KernelIdeal.Frame
public import proofs.«01_k».proof.Proof.ImgKI

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .smem S12 .f32) (harg2 : arg2.IsWhole) (arg3 : Memref sig .tc .vmem S8x1x64x325 .bf16) (harg3 : arg3.IsWhole) (arg4 : Memref sig .tc .vmem S8x1x64x325 .bf16) (harg4 : arg4.IsWhole) (arg5 : Memref sig .tc .vmem S1x336x8x128 .i8) (harg5 : arg5.IsWhole) (arg6 : Memref sig .tc .vmem S1x336x8x128 .i8) (harg6 : arg6.IsWhole) (arg7 : Memref sig .tc .vmem S1x336x8x128 .i8) (harg7 : arg7.IsWhole) (arg8 : Memref sig .tc .vmem S8x1x64x325 .fp8e4m3) (harg8 : arg8.IsWhole) (arg9 : Memref sig .tc .vmem S1x8x64 .f32) (harg9 : arg9.IsWhole) (arg10 : Memref sig .tc .vmem S8x1x64x325 .bf16) (harg10 : arg10.IsWhole) (arg11 : Memref sig .tc .vmem S8x1x64x325 .bf16) (harg11 : arg11.IsWhole) (arg12 : Memref sig .tc .vmem S8x1x64x325 .bf16) (harg12 : arg12.IsWhole) (arg13 : Memref sig .tc .vmem S8x1x64x325 .bf16) (harg13 : arg13.IsWhole)
    (x0 : Vec F S12 .f32) (x1 : Vec F S8x1x64x325 .bf16) (x2 : Vec F S8x1x64x325 .bf16) (x3 : Vec F S1x336x8x128 .i8) (x4 : Vec F S1x336x8x128 .i8) (x5 : Vec F S1x336x8x128 .i8) (x6 : Vec F S8x1x64x325 .fp8e4m3) (x7 : Vec F S1x8x64 .f32) (x8 : Vec F S8x1x64x325 .bf16) :
    Σ' (L9 : List (View.Piece (Elt F) S8x1x64x325 .bf16)), Σ' (L10 : List (View.Piece (Elt F) S8x1x64x325 .bf16)), { L11 : List (View.Piece (Elt F) S8x1x64x325 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    iexists _; iexact H11

end Cert.KernelIdeal.Gen

end
-- ==== Proof.OutKI.lean ====
/- WHAT THE RUN LEAVES. Each of the three output blocks (eight images of one head) as a function of the input blocks alone,
   image by image (`outDq`, `outDk`, `outDv`): the pieces that the body's run found are the blocks of these functions, and
   they cover. -/
module

public import proofs.«01_k».proof.Proof.RunKI
public import Idealize.ShloMosaic.Lib.WholeRead
public import Idealize.ShloMosaic.Lib.Pipeline.ReadBack
public import Idealize.ShloMosaic.Lib.ValueIdxCore

@[expose] public section

set_option maxRecDepth 16384

noncomputable section

namespace Cert.KernelIdeal.Gen

open Cert.KernelIdeal Idealize.ShloMosaic Idealize.ShloMosaic.TcCoe Idealize.ShloMosaic.Tactic
open Idealize.SL.Sem

variable {F : FTy → Type} [FloatOps F]

/-! ## The output blocks as functions of the input blocks -/

/-- The codes of image `b` in a tile. -/
def codes (b : Fin 8) (x : Vec F S1x336x8x128 .i8) : IVec S336x128 32 :=
  match b with
  | 0 => Img.code (Img.word0 x) 24#32
  | 1 => Img.code (Img.word0 x) 16#32
  | 2 => Img.code (Img.word0 x) 8#32
  | 3 => Img.code (Img.word0 x) 0#32
  | 4 => Img.code (Img.word1 x) 24#32
  | 5 => Img.code (Img.word1 x) 16#32
  | 6 => Img.code (Img.word1 x) 8#32
  | 7 => Img.code (Img.word1 x) 0#32

/-- The codes of image `b` in the last tile. -/
def codesTail (b : Fin 8) (x : Vec F S1x336x8x128 .i8) : IVec S336x128 32 :=
  match b with
  | 0 => Img.codeTail (Img.word0 x) 24#32
  | 1 => Img.codeTail (Img.word0 x) 16#32
  | 2 => Img.codeTail (Img.word0 x) 8#32
  | 3 => Img.codeTail (Img.word0 x) 0#32
  | 4 => Img.codeTail (Img.word1 x) 24#32
  | 5 => Img.codeTail (Img.word1 x) 16#32
  | 6 => Img.codeTail (Img.word1 x) 8#32
  | 7 => Img.codeTail (Img.word1 x) 0#32

/-- Image `b` of a block. -/
def sub {e : EltTy} (b : Fin 8) (x : Vec F S8x1x64x325 e) : Vec F S1x1x64x325 e :=
  fun z => x (ValueIdx.ix4 b (0 : Fin 1) (z 2 : Fin 64) (z 3 : Fin 325))

/-- Image `b`'s value scales in a block. -/
def subVs (b : Fin 8) (x : Vec F S1x8x64 .f32) : Vec F S1x1x64 .f32 :=
  fun z => x (ValueIdx.ix3 (0 : Fin 1) b (z 2 : Fin 64))

/-- The block of the gradient of the queries: image by image. -/
def outDq (ps : Elt F .f32) (x2 : Vec F S8x1x64x325 .bf16) (x3 x4 x5 : Vec F S1x336x8x128 .i8) (x6 : Vec F S8x1x64x325 .fp8e4m3) (x7 : Vec F S1x8x64 .f32) (x8 : Vec F S8x1x64x325 .bf16) : Vec F S8x1x64x325 .bf16 :=
  fun y => Img.dq ps (codes (F := F) (y 0) x3) (codes (F := F) (y 0) x4) (codesTail (F := F) (y 0) x5) (sub (y 0) x2) (sub (y 0) x8) (sub (y 0) x6) (subVs (y 0) x7)
    (ValueIdx.ix4 (0 : Fin 1) (0 : Fin 1) (y 2 : Fin 64) (y 3 : Fin 325))

/-- The block of the gradient of the keys: image by image. -/
def outDk (ps : Elt F .f32) (x1 : Vec F S8x1x64x325 .bf16) (x3 x4 x5 : Vec F S1x336x8x128 .i8) (x6 : Vec F S8x1x64x325 .fp8e4m3) (x7 : Vec F S1x8x64 .f32) (x8 : Vec F S8x1x64x325 .bf16) : Vec F S8x1x64x325 .bf16 :=
  fun y => Img.dk ps (codes (F := F) (y 0) x3) (codes (F := F) (y 0) x4) (codesTail (F := F) (y 0) x5) (sub (y 0) x1) (sub (y 0) x8) (sub (y 0) x6) (subVs (y 0) x7)
    (ValueIdx.ix4 (0 : Fin 1) (0 : Fin 1) (y 2 : Fin 64) (y 3 : Fin 325))

/-- The block of the gradient of the values: image by image. -/
def outDv (ps : Elt F .f32) (x3 x4 x5 : Vec F S1x336x8x128 .i8) (x8 : Vec F S8x1x64x325 .bf16) : Vec F S8x1x64x325 .bf16 :=
  fun y => Img.dv ps (codes (F := F) (y 0) x3) (codes (F := F) (y 0) x4) (codesTail (F := F) (y 0) x5) (sub (y 0) x8)
    (ValueIdx.ix4 (0 : Fin 1) (0 : Fin 1) (y 2 : Fin 64) (y 3 : Fin 325))

/-- The head's scale, read at the grid's first coordinate. -/
def scale (i : grid0.Coords) (x0 : Vec F S12 .f32) : Elt F .f32 :=
  x0 ((Rect.unit (s := S12) (k0_off1 i) S1.size (k0_off1_inb i)).idx (Shape.Idx.first (numel1_S1.symm ▸ Nat.one_pos)))

/-! ## What the body loads -/

/-- The load of the head's scale. -/
def ldP (m : Memref sig .tc .smem S12 .f32) (h : m.IsWhole) (x : Vec F S12 .f32) (i : grid0.Coords) : Elt F .f32 :=
  m.view.readAt (Elt F) (Rect.unit (s := S12) (k0_off1 i) S1.size (k0_off1_inb i)).toLoadRect (h.unread x) (Shape.Idx.first (numel1_S1.symm ▸ Nat.one_pos))

/-- The load of a whole tile of codes. -/
def ldT (m : Memref sig .tc .vmem S1x336x8x128 .i8) (h : m.IsWhole) (x : Vec F S1x336x8x128 .i8) : Vec F S1x336x8x128 .i8 :=
  m.view.readAt (Elt F) (Rect.unit (s := S1x336x8x128) ![0, 0, 0, 0] S1x336x8x128.size inb_S1x336x8x128_S1x336x8x128_0_0_0_0).toLoadRect (h.unread x)

/-- The load of one image's matrix. -/
def ldB {e : EltTy} (m : Memref sig .tc .vmem S8x1x64x325 e) (h : m.IsWhole) (x : Vec F S8x1x64x325 e) (b : Nat)
    (inb : ∀ a, (![b, 0, 0, 0] : Fin 4 → Nat) a + S1x1x64x325.size a ≤ S8x1x64x325.size a) : Vec F S1x1x64x325 e :=
  m.view.readAt (Elt F) (Rect.unit (s := S8x1x64x325) ![b, 0, 0, 0] S1x1x64x325.size inb).toLoadRect (h.unread x)

/-- The load of one image's value scales. -/
def ldVs (m : Memref sig .tc .vmem S1x8x64 .f32) (h : m.IsWhole) (x : Vec F S1x8x64 .f32) (b : Nat)
    (inb : ∀ a, (![0, b, 0] : Fin 3 → Nat) a + S1x1x64.size a ≤ S1x8x64.size a) : Vec F S1x1x64 .f32 :=
  m.view.readAt (Elt F) (Rect.unit (s := S1x8x64) ![0, b, 0] S1x1x64.size inb).toLoadRect (h.unread x)

/-- The scale loaded from a whole buffer is the one its contents hold. -/
theorem ldP_eq (m : Memref sig .tc .smem S12 .f32) (h : m.IsWhole) (x : Vec F S12 .f32) (i : grid0.Coords) : ldP m h x i = scale i x := by
  unfold ldP scale
  rw [h.readAt_unread]

/-- A tile loaded whole is the buffer's contents. -/
theorem ldT_eq (m : Memref sig .tc .vmem S1x336x8x128 .i8) (h : m.IsWhole) (x : Vec F S1x336x8x128 .i8) : ldT m h x = x := by
  unfold ldT
  funext z
  rw [h.readAt_unread]
  congr 1
  funext a
  apply Fin.ext
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)
  | ⟨3, _⟩ => exact (Nat.zero_add _).trans (Nat.one_mul _)

/-- An image loaded from a group is that image of the buffer's contents. -/
theorem ldB_eq {e : EltTy} (m : Memref sig .tc .vmem S8x1x64x325 e) (h : m.IsWhole) (x : Vec F S8x1x64x325 e) (b : Nat) (inb) (b' : Fin 8)
    (hb : b'.val = b) : ldB m h x b inb = sub b' x := by
  subst hb
  unfold ldB sub
  funext z
  rw [h.readAt_unread]
  congr 1
  funext a
  apply Fin.ext
  match a with
  | ⟨0, _⟩ => show b'.val + 1 * (z 0).val = b'.val; have : (z 0).val < 1 := (z 0).isLt; omega
  | ⟨1, _⟩ => show 0 + 1 * (z 1).val = 0; have : (z 1).val < 1 := (z 1).isLt; omega
  | ⟨2, _⟩ => exact (Nat.zero_add _).trans (Nat.one_mul _)
  | ⟨3, _⟩ => exact (Nat.zero_add _).trans (Nat.one_mul _)

/-- An image's scales loaded from a group are those of the buffer's contents. -/
theorem ldVs_eq (m : Memref sig .tc .vmem S1x8x64 .f32) (h : m.IsWhole) (x : Vec F S1x8x64 .f32) (b : Nat) (inb) (b' : Fin 8)
    (hb : b'.val = b) : ldVs m h x b inb = subVs b' x := by
  subst hb
  unfold ldVs subVs
  funext z
  rw [h.readAt_unread]
  congr 1
  funext a
  apply Fin.ext
  match a with
  | ⟨0, _⟩ => show 0 + 1 * (z 0).val = 0; have : (z 0).val < 1 := (z 0).isLt; omega
  | ⟨1, _⟩ => show b'.val + 1 * (z 1).val = b'.val; have : (z 1).val < 1 := (z 1).isLt; omega
  | ⟨2, _⟩ => exact (Nat.zero_add _).trans (Nat.one_mul _)

/-- A stored block's index, in the output block: image `b`, the same place. -/
theorem emb_image (b : Nat) (inb : ∀ a, (![b, 0, 0, 0] : Fin 4 → Nat) a + S1x1x64x325.size a ≤ S8x1x64x325.size a) (b' : Fin 8) (hb : b'.val = b)
    (x : S1x1x64x325.Idx) : (Rect.unit (s := S8x1x64x325) ![b, 0, 0, 0] S1x1x64x325.size inb).emb x = ValueIdx.ix4 b' (0 : Fin 1) (x 2 : Fin 64) (x 3 : Fin 325) := by
  subst hb
  funext a
  apply Fin.ext
  match a with
  | ⟨0, _⟩ => show b'.val + 1 * (x 0).val = b'.val; have : (x 0).val < 1 := (x 0).isLt; omega
  | ⟨1, _⟩ => show 0 + 1 * (x 1).val = 0; have : (x 1).val < 1 := (x 1).isLt; omega
  | ⟨2, _⟩ => exact (Nat.zero_add _).trans (Nat.one_mul _)
  | ⟨3, _⟩ => exact (Nat.zero_add _).trans (Nat.one_mul _)

/-- An index of one image's matrix has its first two coordinates zero. -/
theorem idx_image (x : S1x1x64x325.Idx) : x = ValueIdx.ix4 (0 : Fin 1) (0 : Fin 1) (x 2 : Fin 64) (x 3 : Fin 325) := by
  funext a
  apply Fin.ext
  match a with
  | ⟨0, _⟩ => show (x 0).val = 0; have : (x 0).val < 1 := (x 0).isLt; omega
  | ⟨1, _⟩ => show (x 1).val = 0; have : (x 1).val < 1 := (x 1).isLt; omega
  | ⟨2, _⟩ => rfl
  | ⟨3, _⟩ => rfl

/-! ## The pieces -/

/-- The pieces stored for the gradient of the queries are blocks of `outDq`. -/
theorem piecesDq (c : Dev nD) (i : grid0.Coords) (arg2 : Memref sig .tc .smem S12 .f32) (harg2 : arg2.IsWhole) (arg3 : Memref sig .tc .vmem S8x1x64x325 .bf16) (harg3 : arg3.IsWhole) (arg4 : Memref sig .tc .vmem S8x1x64x325 .bf16) (harg4 : arg4.IsWhole) (arg5 : Memref sig .tc .vmem S1x336x8x128 .i8) (harg5 : arg5.IsWhole) (arg6 : Memref sig .tc .vmem S1x336x8x128 .i8) (harg6 : arg6.IsWhole) (arg7 : Memref sig .tc .vmem S1x336x8x128 .i8) (harg7 : arg7.IsWhole) (arg8 : Memref sig .tc .vmem S8x1x64x325 .fp8e4m3) (harg8 : arg8.IsWhole) (arg9 : Memref sig .tc .vmem S1x8x64 .f32) (harg9 : arg9.IsWhole) (arg10 : Memref sig .tc .vmem S8x1x64x325 .bf16) (harg10 : arg10.IsWhole) (arg11 : Memref sig .tc .vmem S8x1x64x325 .bf16) (harg11 : arg11.IsWhole) (arg12 : Memref sig .tc .vmem S8x1x64x325 .bf16) (harg12 : arg12.IsWhole) (arg13 : Memref sig .tc .vmem S8x1x64x325 .bf16) (harg13 : arg13.IsWhole)
    (x0 : Vec F S12 .f32) (x1 : Vec F S8x1x64x325 .bf16) (x2 : Vec F S8x1x64x325 .bf16) (x3 : Vec F S1x336x8x128 .i8) (x4 : Vec F S1x336x8x128 .i8) (x5 : Vec F S1x336x8x128 .i8) (x6 : Vec F S8x1x64x325 .fp8e4m3) (x7 : Vec F S1x8x64 .f32) (x8 : Vec F S8x1x64x325 .bf16) :
    View.PiecesOf (outDq (scale i x0) x2 x3 x4 x5 x6 x7 x8) (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8).1 := by
  unfold kernelRun0_A
  dsimp only
  refine ⟨?_, ?_, ?_, ?_, ?_, ?_, ?_, ?_, trivial⟩
  · intro x
    refine Eq.trans (b := Img.dq (ldP arg2 harg2 x0 i) (Img.code (Img.word1 (ldT arg5 harg5 x3)) 0#32) (Img.code (Img.word1 (ldT arg6 harg6 x4)) 0#32) (Img.codeTail (Img.word1 (ldT arg7 harg7 x5)) 0#32) (ldB arg4 harg4 x2 7 inb_S8x1x64x325_S1x1x64x325_7_0_0_0) (ldB arg10 harg10 x8 7 inb_S8x1x64x325_S1x1x64x325_7_0_0_0) (ldB arg8 harg8 x6 7 inb_S8x1x64x325_S1x1x64x325_7_0_0_0) (ldVs arg9 harg9 x7 7 inb_S1x8x64_S1x1x64_0_7_0) x) rfl ?_
    refine Eq.trans ?_ (congrArg (outDq (scale i x0) x2 x3 x4 x5 x6 x7 x8) (emb_image 7 inb_S8x1x64x325_S1x1x64x325_7_0_0_0 7 rfl x)).symm
    simp only [ldP_eq, ldT_eq, ldB_eq _ _ _ 7 _ 7 rfl, ldVs_eq _ _ _ 7 _ 7 rfl]
    exact congrArg _ (idx_image x)
  · intro x
    refine Eq.trans (b := Img.dq (ldP arg2 harg2 x0 i) (Img.code (Img.word1 (ldT arg5 harg5 x3)) 8#32) (Img.code (Img.word1 (ldT arg6 harg6 x4)) 8#32) (Img.codeTail (Img.word1 (ldT arg7 harg7 x5)) 8#32) (ldB arg4 harg4 x2 6 inb_S8x1x64x325_S1x1x64x325_6_0_0_0) (ldB arg10 harg10 x8 6 inb_S8x1x64x325_S1x1x64x325_6_0_0_0) (ldB arg8 harg8 x6 6 inb_S8x1x64x325_S1x1x64x325_6_0_0_0) (ldVs arg9 harg9 x7 6 inb_S1x8x64_S1x1x64_0_6_0) x) rfl ?_
    refine Eq.trans ?_ (congrArg (outDq (scale i x0) x2 x3 x4 x5 x6 x7 x8) (emb_image 6 inb_S8x1x64x325_S1x1x64x325_6_0_0_0 6 rfl x)).symm
    simp only [ldP_eq, ldT_eq, ldB_eq _ _ _ 6 _ 6 rfl, ldVs_eq _ _ _ 6 _ 6 rfl]
    exact congrArg _ (idx_image x)
  · intro x
    refine Eq.trans (b := Img.dq (ldP arg2 harg2 x0 i) (Img.code (Img.word1 (ldT arg5 harg5 x3)) 16#32) (Img.code (Img.word1 (ldT arg6 harg6 x4)) 16#32) (Img.codeTail (Img.word1 (ldT arg7 harg7 x5)) 16#32) (ldB arg4 harg4 x2 5 inb_S8x1x64x325_S1x1x64x325_5_0_0_0) (ldB arg10 harg10 x8 5 inb_S8x1x64x325_S1x1x64x325_5_0_0_0) (ldB arg8 harg8 x6 5 inb_S8x1x64x325_S1x1x64x325_5_0_0_0) (ldVs arg9 harg9 x7 5 inb_S1x8x64_S1x1x64_0_5_0) x) rfl ?_
    refine Eq.trans ?_ (congrArg (outDq (scale i x0) x2 x3 x4 x5 x6 x7 x8) (emb_image 5 inb_S8x1x64x325_S1x1x64x325_5_0_0_0 5 rfl x)).symm
    simp only [ldP_eq, ldT_eq, ldB_eq _ _ _ 5 _ 5 rfl, ldVs_eq _ _ _ 5 _ 5 rfl]
    exact congrArg _ (idx_image x)
  · intro x
    refine Eq.trans (b := Img.dq (ldP arg2 harg2 x0 i) (Img.code (Img.word1 (ldT arg5 harg5 x3)) 24#32) (Img.code (Img.word1 (ldT arg6 harg6 x4)) 24#32) (Img.codeTail (Img.word1 (ldT arg7 harg7 x5)) 24#32) (ldB arg4 harg4 x2 4 inb_S8x1x64x325_S1x1x64x325_4_0_0_0) (ldB arg10 harg10 x8 4 inb_S8x1x64x325_S1x1x64x325_4_0_0_0) (ldB arg8 harg8 x6 4 inb_S8x1x64x325_S1x1x64x325_4_0_0_0) (ldVs arg9 harg9 x7 4 inb_S1x8x64_S1x1x64_0_4_0) x) rfl ?_
    refine Eq.trans ?_ (congrArg (outDq (scale i x0) x2 x3 x4 x5 x6 x7 x8) (emb_image 4 inb_S8x1x64x325_S1x1x64x325_4_0_0_0 4 rfl x)).symm
    simp only [ldP_eq, ldT_eq, ldB_eq _ _ _ 4 _ 4 rfl, ldVs_eq _ _ _ 4 _ 4 rfl]
    exact congrArg _ (idx_image x)
  · intro x
    refine Eq.trans (b := Img.dq (ldP arg2 harg2 x0 i) (Img.code (Img.word0 (ldT arg5 harg5 x3)) 0#32) (Img.code (Img.word0 (ldT arg6 harg6 x4)) 0#32) (Img.codeTail (Img.word0 (ldT arg7 harg7 x5)) 0#32) (ldB arg4 harg4 x2 3 inb_S8x1x64x325_S1x1x64x325_3_0_0_0) (ldB arg10 harg10 x8 3 inb_S8x1x64x325_S1x1x64x325_3_0_0_0) (ldB arg8 harg8 x6 3 inb_S8x1x64x325_S1x1x64x325_3_0_0_0) (ldVs arg9 harg9 x7 3 inb_S1x8x64_S1x1x64_0_3_0) x) rfl ?_
    refine Eq.trans ?_ (congrArg (outDq (scale i x0) x2 x3 x4 x5 x6 x7 x8) (emb_image 3 inb_S8x1x64x325_S1x1x64x325_3_0_0_0 3 rfl x)).symm
    simp only [ldP_eq, ldT_eq, ldB_eq _ _ _ 3 _ 3 rfl, ldVs_eq _ _ _ 3 _ 3 rfl]
    exact congrArg _ (idx_image x)
  · intro x
    refine Eq.trans (b := Img.dq (ldP arg2 harg2 x0 i) (Img.code (Img.word0 (ldT arg5 harg5 x3)) 8#32) (Img.code (Img.word0 (ldT arg6 harg6 x4)) 8#32) (Img.codeTail (Img.word0 (ldT arg7 harg7 x5)) 8#32) (ldB arg4 harg4 x2 2 inb_S8x1x64x325_S1x1x64x325_2_0_0_0) (ldB arg10 harg10 x8 2 inb_S8x1x64x325_S1x1x64x325_2_0_0_0) (ldB arg8 harg8 x6 2 inb_S8x1x64x325_S1x1x64x325_2_0_0_0) (ldVs arg9 harg9 x7 2 inb_S1x8x64_S1x1x64_0_2_0) x) rfl ?_
    refine Eq.trans ?_ (congrArg (outDq (scale i x0) x2 x3 x4 x5 x6 x7 x8) (emb_image 2 inb_S8x1x64x325_S1x1x64x325_2_0_0_0 2 rfl x)).symm
    simp only [ldP_eq, ldT_eq, ldB_eq _ _ _ 2 _ 2 rfl, ldVs_eq _ _ _ 2 _ 2 rfl]
    exact congrArg _ (idx_image x)
  · intro x
    refine Eq.trans (b := Img.dq (ldP arg2 harg2 x0 i) (Img.code (Img.word0 (ldT arg5 harg5 x3)) 16#32) (Img.code (Img.word0 (ldT arg6 harg6 x4)) 16#32) (Img.codeTail (Img.word0 (ldT arg7 harg7 x5)) 16#32) (ldB arg4 harg4 x2 1 inb_S8x1x64x325_S1x1x64x325_1_0_0_0) (ldB arg10 harg10 x8 1 inb_S8x1x64x325_S1x1x64x325_1_0_0_0) (ldB arg8 harg8 x6 1 inb_S8x1x64x325_S1x1x64x325_1_0_0_0) (ldVs arg9 harg9 x7 1 inb_S1x8x64_S1x1x64_0_1_0) x) rfl ?_
    refine Eq.trans ?_ (congrArg (outDq (scale i x0) x2 x3 x4 x5 x6 x7 x8) (emb_image 1 inb_S8x1x64x325_S1x1x64x325_1_0_0_0 1 rfl x)).symm
    simp only [ldP_eq, ldT_eq, ldB_eq _ _ _ 1 _ 1 rfl, ldVs_eq _ _ _ 1 _ 1 rfl]
    exact congrArg _ (idx_image x)
  · intro x
    refine Eq.trans (b := Img.dq (ldP arg2 harg2 x0 i) (Img.code (Img.word0 (ldT arg5 harg5 x3)) 24#32) (Img.code (Img.word0 (ldT arg6 harg6 x4)) 24#32) (Img.codeTail (Img.word0 (ldT arg7 harg7 x5)) 24#32) (ldB arg4 harg4 x2 0 inb_S8x1x64x325_S1x1x64x325_0_0_0_0) (ldB arg10 harg10 x8 0 inb_S8x1x64x325_S1x1x64x325_0_0_0_0) (ldB arg8 harg8 x6 0 inb_S8x1x64x325_S1x1x64x325_0_0_0_0) (ldVs arg9 harg9 x7 0 inb_S1x8x64_S1x1x64_0_0_0) x) rfl ?_
    refine Eq.trans ?_ (congrArg (outDq (scale i x0) x2 x3 x4 x5 x6 x7 x8) (emb_image 0 inb_S8x1x64x325_S1x1x64x325_0_0_0_0 0 rfl x)).symm
    simp only [ldP_eq, ldT_eq, ldB_eq _ _ _ 0 _ 0 rfl, ldVs_eq _ _ _ 0 _ 0 rfl]
    exact congrArg _ (idx_image x)

/-- They cover the block. -/
theorem coverDq (c : Dev nD) (i : grid0.Coords) (arg2 : Memref sig .tc .smem S12 .f32) (harg2 : arg2.IsWhole) (arg3 : Memref sig .tc .vmem S8x1x64x325 .bf16) (harg3 : arg3.IsWhole) (arg4 : Memref sig .tc .vmem S8x1x64x325 .bf16) (harg4 : arg4.IsWhole) (arg5 : Memref sig .tc .vmem S1x336x8x128 .i8) (harg5 : arg5.IsWhole) (arg6 : Memref sig .tc .vmem S1x336x8x128 .i8) (harg6 : arg6.IsWhole) (arg7 : Memref sig .tc .vmem S1x336x8x128 .i8) (harg7 : arg7.IsWhole) (arg8 : Memref sig .tc .vmem S8x1x64x325 .fp8e4m3) (harg8 : arg8.IsWhole) (arg9 : Memref sig .tc .vmem S1x8x64 .f32) (harg9 : arg9.IsWhole) (arg10 : Memref sig .tc .vmem S8x1x64x325 .bf16) (harg10 : arg10.IsWhole) (arg11 : Memref sig .tc .vmem S8x1x64x325 .bf16) (harg11 : arg11.IsWhole) (arg12 : Memref sig .tc .vmem S8x1x64x325 .bf16) (harg12 : arg12.IsWhole) (arg13 : Memref sig .tc .vmem S8x1x64x325 .bf16) (harg13 : arg13.IsWhole)
    (x0 : Vec F S12 .f32) (x1 : Vec F S8x1x64x325 .bf16) (x2 : Vec F S8x1x64x325 .bf16) (x3 : Vec F S1x336x8x128 .i8) (x4 : Vec F S1x336x8x128 .i8) (x5 : Vec F S1x336x8x128 .i8) (x6 : Vec F S8x1x64x325 .fp8e4m3) (x7 : Vec F S1x8x64 .f32) (x8 : Vec F S8x1x64x325 .bf16) (y : S8x1x64x325.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8).1 S1x1x64x325.size (by sl_kernel_rfl) y

/-- The pieces stored for the gradient of the keys are blocks of `outDk`. -/
theorem piecesDk (c : Dev nD) (i : grid0.Coords) (arg2 : Memref sig .tc .smem S12 .f32) (harg2 : arg2.IsWhole) (arg3 : Memref sig .tc .vmem S8x1x64x325 .bf16) (harg3 : arg3.IsWhole) (arg4 : Memref sig .tc .vmem S8x1x64x325 .bf16) (harg4 : arg4.IsWhole) (arg5 : Memref sig .tc .vmem S1x336x8x128 .i8) (harg5 : arg5.IsWhole) (arg6 : Memref sig .tc .vmem S1x336x8x128 .i8) (harg6 : arg6.IsWhole) (arg7 : Memref sig .tc .vmem S1x336x8x128 .i8) (harg7 : arg7.IsWhole) (arg8 : Memref sig .tc .vmem S8x1x64x325 .fp8e4m3) (harg8 : arg8.IsWhole) (arg9 : Memref sig .tc .vmem S1x8x64 .f32) (harg9 : arg9.IsWhole) (arg10 : Memref sig .tc .vmem S8x1x64x325 .bf16) (harg10 : arg10.IsWhole) (arg11 : Memref sig .tc .vmem S8x1x64x325 .bf16) (harg11 : arg11.IsWhole) (arg12 : Memref sig .tc .vmem S8x1x64x325 .bf16) (harg12 : arg12.IsWhole) (arg13 : Memref sig .tc .vmem S8x1x64x325 .bf16) (harg13 : arg13.IsWhole)
    (x0 : Vec F S12 .f32) (x1 : Vec F S8x1x64x325 .bf16) (x2 : Vec F S8x1x64x325 .bf16) (x3 : Vec F S1x336x8x128 .i8) (x4 : Vec F S1x336x8x128 .i8) (x5 : Vec F S1x336x8x128 .i8) (x6 : Vec F S8x1x64x325 .fp8e4m3) (x7 : Vec F S1x8x64 .f32) (x8 : Vec F S8x1x64x325 .bf16) :
    View.PiecesOf (outDk (scale i x0) x1 x3 x4 x5 x6 x7 x8) (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.1 := by
  unfold kernelRun0_A
  dsimp only
  refine ⟨?_, ?_, ?_, ?_, ?_, ?_, ?_, ?_, trivial⟩
  · intro x
    refine Eq.trans (b := Img.dk (ldP arg2 harg2 x0 i) (Img.code (Img.word1 (ldT arg5 harg5 x3)) 0#32) (Img.code (Img.word1 (ldT arg6 harg6 x4)) 0#32) (Img.codeTail (Img.word1 (ldT arg7 harg7 x5)) 0#32) (ldB arg3 harg3 x1 7 inb_S8x1x64x325_S1x1x64x325_7_0_0_0) (ldB arg10 harg10 x8 7 inb_S8x1x64x325_S1x1x64x325_7_0_0_0) (ldB arg8 harg8 x6 7 inb_S8x1x64x325_S1x1x64x325_7_0_0_0) (ldVs arg9 harg9 x7 7 inb_S1x8x64_S1x1x64_0_7_0) x) rfl ?_
    refine Eq.trans ?_ (congrArg (outDk (scale i x0) x1 x3 x4 x5 x6 x7 x8) (emb_image 7 inb_S8x1x64x325_S1x1x64x325_7_0_0_0 7 rfl x)).symm
    simp only [ldP_eq, ldT_eq, ldB_eq _ _ _ 7 _ 7 rfl, ldVs_eq _ _ _ 7 _ 7 rfl]
    exact congrArg _ (idx_image x)
  · intro x
    refine Eq.trans (b := Img.dk (ldP arg2 harg2 x0 i) (Img.code (Img.word1 (ldT arg5 harg5 x3)) 8#32) (Img.code (Img.word1 (ldT arg6 harg6 x4)) 8#32) (Img.codeTail (Img.word1 (ldT arg7 harg7 x5)) 8#32) (ldB arg3 harg3 x1 6 inb_S8x1x64x325_S1x1x64x325_6_0_0_0) (ldB arg10 harg10 x8 6 inb_S8x1x64x325_S1x1x64x325_6_0_0_0) (ldB arg8 harg8 x6 6 inb_S8x1x64x325_S1x1x64x325_6_0_0_0) (ldVs arg9 harg9 x7 6 inb_S1x8x64_S1x1x64_0_6_0) x) rfl ?_
    refine Eq.trans ?_ (congrArg (outDk (scale i x0) x1 x3 x4 x5 x6 x7 x8) (emb_image 6 inb_S8x1x64x325_S1x1x64x325_6_0_0_0 6 rfl x)).symm
    simp only [ldP_eq, ldT_eq, ldB_eq _ _ _ 6 _ 6 rfl, ldVs_eq _ _ _ 6 _ 6 rfl]
    exact congrArg _ (idx_image x)
  · intro x
    refine Eq.trans (b := Img.dk (ldP arg2 harg2 x0 i) (Img.code (Img.word1 (ldT arg5 harg5 x3)) 16#32) (Img.code (Img.word1 (ldT arg6 harg6 x4)) 16#32) (Img.codeTail (Img.word1 (ldT arg7 harg7 x5)) 16#32) (ldB arg3 harg3 x1 5 inb_S8x1x64x325_S1x1x64x325_5_0_0_0) (ldB arg10 harg10 x8 5 inb_S8x1x64x325_S1x1x64x325_5_0_0_0) (ldB arg8 harg8 x6 5 inb_S8x1x64x325_S1x1x64x325_5_0_0_0) (ldVs arg9 harg9 x7 5 inb_S1x8x64_S1x1x64_0_5_0) x) rfl ?_
    refine Eq.trans ?_ (congrArg (outDk (scale i x0) x1 x3 x4 x5 x6 x7 x8) (emb_image 5 inb_S8x1x64x325_S1x1x64x325_5_0_0_0 5 rfl x)).symm
    simp only [ldP_eq, ldT_eq, ldB_eq _ _ _ 5 _ 5 rfl, ldVs_eq _ _ _ 5 _ 5 rfl]
    exact congrArg _ (idx_image x)
  · intro x
    refine Eq.trans (b := Img.dk (ldP arg2 harg2 x0 i) (Img.code (Img.word1 (ldT arg5 harg5 x3)) 24#32) (Img.code (Img.word1 (ldT arg6 harg6 x4)) 24#32) (Img.codeTail (Img.word1 (ldT arg7 harg7 x5)) 24#32) (ldB arg3 harg3 x1 4 inb_S8x1x64x325_S1x1x64x325_4_0_0_0) (ldB arg10 harg10 x8 4 inb_S8x1x64x325_S1x1x64x325_4_0_0_0) (ldB arg8 harg8 x6 4 inb_S8x1x64x325_S1x1x64x325_4_0_0_0) (ldVs arg9 harg9 x7 4 inb_S1x8x64_S1x1x64_0_4_0) x) rfl ?_
    refine Eq.trans ?_ (congrArg (outDk (scale i x0) x1 x3 x4 x5 x6 x7 x8) (emb_image 4 inb_S8x1x64x325_S1x1x64x325_4_0_0_0 4 rfl x)).symm
    simp only [ldP_eq, ldT_eq, ldB_eq _ _ _ 4 _ 4 rfl, ldVs_eq _ _ _ 4 _ 4 rfl]
    exact congrArg _ (idx_image x)
  · intro x
    refine Eq.trans (b := Img.dk (ldP arg2 harg2 x0 i) (Img.code (Img.word0 (ldT arg5 harg5 x3)) 0#32) (Img.code (Img.word0 (ldT arg6 harg6 x4)) 0#32) (Img.codeTail (Img.word0 (ldT arg7 harg7 x5)) 0#32) (ldB arg3 harg3 x1 3 inb_S8x1x64x325_S1x1x64x325_3_0_0_0) (ldB arg10 harg10 x8 3 inb_S8x1x64x325_S1x1x64x325_3_0_0_0) (ldB arg8 harg8 x6 3 inb_S8x1x64x325_S1x1x64x325_3_0_0_0) (ldVs arg9 harg9 x7 3 inb_S1x8x64_S1x1x64_0_3_0) x) rfl ?_
    refine Eq.trans ?_ (congrArg (outDk (scale i x0) x1 x3 x4 x5 x6 x7 x8) (emb_image 3 inb_S8x1x64x325_S1x1x64x325_3_0_0_0 3 rfl x)).symm
    simp only [ldP_eq, ldT_eq, ldB_eq _ _ _ 3 _ 3 rfl, ldVs_eq _ _ _ 3 _ 3 rfl]
    exact congrArg _ (idx_image x)
  · intro x
    refine Eq.trans (b := Img.dk (ldP arg2 harg2 x0 i) (Img.code (Img.word0 (ldT arg5 harg5 x3)) 8#32) (Img.code (Img.word0 (ldT arg6 harg6 x4)) 8#32) (Img.codeTail (Img.word0 (ldT arg7 harg7 x5)) 8#32) (ldB arg3 harg3 x1 2 inb_S8x1x64x325_S1x1x64x325_2_0_0_0) (ldB arg10 harg10 x8 2 inb_S8x1x64x325_S1x1x64x325_2_0_0_0) (ldB arg8 harg8 x6 2 inb_S8x1x64x325_S1x1x64x325_2_0_0_0) (ldVs arg9 harg9 x7 2 inb_S1x8x64_S1x1x64_0_2_0) x) rfl ?_
    refine Eq.trans ?_ (congrArg (outDk (scale i x0) x1 x3 x4 x5 x6 x7 x8) (emb_image 2 inb_S8x1x64x325_S1x1x64x325_2_0_0_0 2 rfl x)).symm
    simp only [ldP_eq, ldT_eq, ldB_eq _ _ _ 2 _ 2 rfl, ldVs_eq _ _ _ 2 _ 2 rfl]
    exact congrArg _ (idx_image x)
  · intro x
    refine Eq.trans (b := Img.dk (ldP arg2 harg2 x0 i) (Img.code (Img.word0 (ldT arg5 harg5 x3)) 16#32) (Img.code (Img.word0 (ldT arg6 harg6 x4)) 16#32) (Img.codeTail (Img.word0 (ldT arg7 harg7 x5)) 16#32) (ldB arg3 harg3 x1 1 inb_S8x1x64x325_S1x1x64x325_1_0_0_0) (ldB arg10 harg10 x8 1 inb_S8x1x64x325_S1x1x64x325_1_0_0_0) (ldB arg8 harg8 x6 1 inb_S8x1x64x325_S1x1x64x325_1_0_0_0) (ldVs arg9 harg9 x7 1 inb_S1x8x64_S1x1x64_0_1_0) x) rfl ?_
    refine Eq.trans ?_ (congrArg (outDk (scale i x0) x1 x3 x4 x5 x6 x7 x8) (emb_image 1 inb_S8x1x64x325_S1x1x64x325_1_0_0_0 1 rfl x)).symm
    simp only [ldP_eq, ldT_eq, ldB_eq _ _ _ 1 _ 1 rfl, ldVs_eq _ _ _ 1 _ 1 rfl]
    exact congrArg _ (idx_image x)
  · intro x
    refine Eq.trans (b := Img.dk (ldP arg2 harg2 x0 i) (Img.code (Img.word0 (ldT arg5 harg5 x3)) 24#32) (Img.code (Img.word0 (ldT arg6 harg6 x4)) 24#32) (Img.codeTail (Img.word0 (ldT arg7 harg7 x5)) 24#32) (ldB arg3 harg3 x1 0 inb_S8x1x64x325_S1x1x64x325_0_0_0_0) (ldB arg10 harg10 x8 0 inb_S8x1x64x325_S1x1x64x325_0_0_0_0) (ldB arg8 harg8 x6 0 inb_S8x1x64x325_S1x1x64x325_0_0_0_0) (ldVs arg9 harg9 x7 0 inb_S1x8x64_S1x1x64_0_0_0) x) rfl ?_
    refine Eq.trans ?_ (congrArg (outDk (scale i x0) x1 x3 x4 x5 x6 x7 x8) (emb_image 0 inb_S8x1x64x325_S1x1x64x325_0_0_0_0 0 rfl x)).symm
    simp only [ldP_eq, ldT_eq, ldB_eq _ _ _ 0 _ 0 rfl, ldVs_eq _ _ _ 0 _ 0 rfl]
    exact congrArg _ (idx_image x)

/-- They cover the block. -/
theorem coverDk (c : Dev nD) (i : grid0.Coords) (arg2 : Memref sig .tc .smem S12 .f32) (harg2 : arg2.IsWhole) (arg3 : Memref sig .tc .vmem S8x1x64x325 .bf16) (harg3 : arg3.IsWhole) (arg4 : Memref sig .tc .vmem S8x1x64x325 .bf16) (harg4 : arg4.IsWhole) (arg5 : Memref sig .tc .vmem S1x336x8x128 .i8) (harg5 : arg5.IsWhole) (arg6 : Memref sig .tc .vmem S1x336x8x128 .i8) (harg6 : arg6.IsWhole) (arg7 : Memref sig .tc .vmem S1x336x8x128 .i8) (harg7 : arg7.IsWhole) (arg8 : Memref sig .tc .vmem S8x1x64x325 .fp8e4m3) (harg8 : arg8.IsWhole) (arg9 : Memref sig .tc .vmem S1x8x64 .f32) (harg9 : arg9.IsWhole) (arg10 : Memref sig .tc .vmem S8x1x64x325 .bf16) (harg10 : arg10.IsWhole) (arg11 : Memref sig .tc .vmem S8x1x64x325 .bf16) (harg11 : arg11.IsWhole) (arg12 : Memref sig .tc .vmem S8x1x64x325 .bf16) (harg12 : arg12.IsWhole) (arg13 : Memref sig .tc .vmem S8x1x64x325 .bf16) (harg13 : arg13.IsWhole)
    (x0 : Vec F S12 .f32) (x1 : Vec F S8x1x64x325 .bf16) (x2 : Vec F S8x1x64x325 .bf16) (x3 : Vec F S1x336x8x128 .i8) (x4 : Vec F S1x336x8x128 .i8) (x5 : Vec F S1x336x8x128 .i8) (x6 : Vec F S8x1x64x325 .fp8e4m3) (x7 : Vec F S1x8x64 .f32) (x8 : Vec F S8x1x64x325 .bf16) (y : S8x1x64x325.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.1 S1x1x64x325.size (by sl_kernel_rfl) y

/-- The pieces stored for the gradient of the values are blocks of `outDv`. -/
theorem piecesDv (c : Dev nD) (i : grid0.Coords) (arg2 : Memref sig .tc .smem S12 .f32) (harg2 : arg2.IsWhole) (arg3 : Memref sig .tc .vmem S8x1x64x325 .bf16) (harg3 : arg3.IsWhole) (arg4 : Memref sig .tc .vmem S8x1x64x325 .bf16) (harg4 : arg4.IsWhole) (arg5 : Memref sig .tc .vmem S1x336x8x128 .i8) (harg5 : arg5.IsWhole) (arg6 : Memref sig .tc .vmem S1x336x8x128 .i8) (harg6 : arg6.IsWhole) (arg7 : Memref sig .tc .vmem S1x336x8x128 .i8) (harg7 : arg7.IsWhole) (arg8 : Memref sig .tc .vmem S8x1x64x325 .fp8e4m3) (harg8 : arg8.IsWhole) (arg9 : Memref sig .tc .vmem S1x8x64 .f32) (harg9 : arg9.IsWhole) (arg10 : Memref sig .tc .vmem S8x1x64x325 .bf16) (harg10 : arg10.IsWhole) (arg11 : Memref sig .tc .vmem S8x1x64x325 .bf16) (harg11 : arg11.IsWhole) (arg12 : Memref sig .tc .vmem S8x1x64x325 .bf16) (harg12 : arg12.IsWhole) (arg13 : Memref sig .tc .vmem S8x1x64x325 .bf16) (harg13 : arg13.IsWhole)
    (x0 : Vec F S12 .f32) (x1 : Vec F S8x1x64x325 .bf16) (x2 : Vec F S8x1x64x325 .bf16) (x3 : Vec F S1x336x8x128 .i8) (x4 : Vec F S1x336x8x128 .i8) (x5 : Vec F S1x336x8x128 .i8) (x6 : Vec F S8x1x64x325 .fp8e4m3) (x7 : Vec F S1x8x64 .f32) (x8 : Vec F S8x1x64x325 .bf16) :
    View.PiecesOf (outDv (scale i x0) x3 x4 x5 x8) (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.2.1 := by
  unfold kernelRun0_A
  dsimp only
  refine ⟨?_, ?_, ?_, ?_, ?_, ?_, ?_, ?_, trivial⟩
  · intro x
    refine Eq.trans (b := Img.dv (ldP arg2 harg2 x0 i) (Img.code (Img.word1 (ldT arg5 harg5 x3)) 0#32) (Img.code (Img.word1 (ldT arg6 harg6 x4)) 0#32) (Img.codeTail (Img.word1 (ldT arg7 harg7 x5)) 0#32) (ldB arg10 harg10 x8 7 inb_S8x1x64x325_S1x1x64x325_7_0_0_0) x) rfl ?_
    refine Eq.trans ?_ (congrArg (outDv (scale i x0) x3 x4 x5 x8) (emb_image 7 inb_S8x1x64x325_S1x1x64x325_7_0_0_0 7 rfl x)).symm
    simp only [ldP_eq, ldT_eq, ldB_eq _ _ _ 7 _ 7 rfl, ldVs_eq _ _ _ 7 _ 7 rfl]
    exact congrArg _ (idx_image x)
  · intro x
    refine Eq.trans (b := Img.dv (ldP arg2 harg2 x0 i) (Img.code (Img.word1 (ldT arg5 harg5 x3)) 8#32) (Img.code (Img.word1 (ldT arg6 harg6 x4)) 8#32) (Img.codeTail (Img.word1 (ldT arg7 harg7 x5)) 8#32) (ldB arg10 harg10 x8 6 inb_S8x1x64x325_S1x1x64x325_6_0_0_0) x) rfl ?_
    refine Eq.trans ?_ (congrArg (outDv (scale i x0) x3 x4 x5 x8) (emb_image 6 inb_S8x1x64x325_S1x1x64x325_6_0_0_0 6 rfl x)).symm
    simp only [ldP_eq, ldT_eq, ldB_eq _ _ _ 6 _ 6 rfl, ldVs_eq _ _ _ 6 _ 6 rfl]
    exact congrArg _ (idx_image x)
  · intro x
    refine Eq.trans (b := Img.dv (ldP arg2 harg2 x0 i) (Img.code (Img.word1 (ldT arg5 harg5 x3)) 16#32) (Img.code (Img.word1 (ldT arg6 harg6 x4)) 16#32) (Img.codeTail (Img.word1 (ldT arg7 harg7 x5)) 16#32) (ldB arg10 harg10 x8 5 inb_S8x1x64x325_S1x1x64x325_5_0_0_0) x) rfl ?_
    refine Eq.trans ?_ (congrArg (outDv (scale i x0) x3 x4 x5 x8) (emb_image 5 inb_S8x1x64x325_S1x1x64x325_5_0_0_0 5 rfl x)).symm
    simp only [ldP_eq, ldT_eq, ldB_eq _ _ _ 5 _ 5 rfl, ldVs_eq _ _ _ 5 _ 5 rfl]
    exact congrArg _ (idx_image x)
  · intro x
    refine Eq.trans (b := Img.dv (ldP arg2 harg2 x0 i) (Img.code (Img.word1 (ldT arg5 harg5 x3)) 24#32) (Img.code (Img.word1 (ldT arg6 harg6 x4)) 24#32) (Img.codeTail (Img.word1 (ldT arg7 harg7 x5)) 24#32) (ldB arg10 harg10 x8 4 inb_S8x1x64x325_S1x1x64x325_4_0_0_0) x) rfl ?_
    refine Eq.trans ?_ (congrArg (outDv (scale i x0) x3 x4 x5 x8) (emb_image 4 inb_S8x1x64x325_S1x1x64x325_4_0_0_0 4 rfl x)).symm
    simp only [ldP_eq, ldT_eq, ldB_eq _ _ _ 4 _ 4 rfl, ldVs_eq _ _ _ 4 _ 4 rfl]
    exact congrArg _ (idx_image x)
  · intro x
    refine Eq.trans (b := Img.dv (ldP arg2 harg2 x0 i) (Img.code (Img.word0 (ldT arg5 harg5 x3)) 0#32) (Img.code (Img.word0 (ldT arg6 harg6 x4)) 0#32) (Img.codeTail (Img.word0 (ldT arg7 harg7 x5)) 0#32) (ldB arg10 harg10 x8 3 inb_S8x1x64x325_S1x1x64x325_3_0_0_0) x) rfl ?_
    refine Eq.trans ?_ (congrArg (outDv (scale i x0) x3 x4 x5 x8) (emb_image 3 inb_S8x1x64x325_S1x1x64x325_3_0_0_0 3 rfl x)).symm
    simp only [ldP_eq, ldT_eq, ldB_eq _ _ _ 3 _ 3 rfl, ldVs_eq _ _ _ 3 _ 3 rfl]
    exact congrArg _ (idx_image x)
  · intro x
    refine Eq.trans (b := Img.dv (ldP arg2 harg2 x0 i) (Img.code (Img.word0 (ldT arg5 harg5 x3)) 8#32) (Img.code (Img.word0 (ldT arg6 harg6 x4)) 8#32) (Img.codeTail (Img.word0 (ldT arg7 harg7 x5)) 8#32) (ldB arg10 harg10 x8 2 inb_S8x1x64x325_S1x1x64x325_2_0_0_0) x) rfl ?_
    refine Eq.trans ?_ (congrArg (outDv (scale i x0) x3 x4 x5 x8) (emb_image 2 inb_S8x1x64x325_S1x1x64x325_2_0_0_0 2 rfl x)).symm
    simp only [ldP_eq, ldT_eq, ldB_eq _ _ _ 2 _ 2 rfl, ldVs_eq _ _ _ 2 _ 2 rfl]
    exact congrArg _ (idx_image x)
  · intro x
    refine Eq.trans (b := Img.dv (ldP arg2 harg2 x0 i) (Img.code (Img.word0 (ldT arg5 harg5 x3)) 16#32) (Img.code (Img.word0 (ldT arg6 harg6 x4)) 16#32) (Img.codeTail (Img.word0 (ldT arg7 harg7 x5)) 16#32) (ldB arg10 harg10 x8 1 inb_S8x1x64x325_S1x1x64x325_1_0_0_0) x) rfl ?_
    refine Eq.trans ?_ (congrArg (outDv (scale i x0) x3 x4 x5 x8) (emb_image 1 inb_S8x1x64x325_S1x1x64x325_1_0_0_0 1 rfl x)).symm
    simp only [ldP_eq, ldT_eq, ldB_eq _ _ _ 1 _ 1 rfl, ldVs_eq _ _ _ 1 _ 1 rfl]
    exact congrArg _ (idx_image x)
  · intro x
    refine Eq.trans (b := Img.dv (ldP arg2 harg2 x0 i) (Img.code (Img.word0 (ldT arg5 harg5 x3)) 24#32) (Img.code (Img.word0 (ldT arg6 harg6 x4)) 24#32) (Img.codeTail (Img.word0 (ldT arg7 harg7 x5)) 24#32) (ldB arg10 harg10 x8 0 inb_S8x1x64x325_S1x1x64x325_0_0_0_0) x) rfl ?_
    refine Eq.trans ?_ (congrArg (outDv (scale i x0) x3 x4 x5 x8) (emb_image 0 inb_S8x1x64x325_S1x1x64x325_0_0_0_0 0 rfl x)).symm
    simp only [ldP_eq, ldT_eq, ldB_eq _ _ _ 0 _ 0 rfl, ldVs_eq _ _ _ 0 _ 0 rfl]
    exact congrArg _ (idx_image x)

/-- They cover the block. -/
theorem coverDv (c : Dev nD) (i : grid0.Coords) (arg2 : Memref sig .tc .smem S12 .f32) (harg2 : arg2.IsWhole) (arg3 : Memref sig .tc .vmem S8x1x64x325 .bf16) (harg3 : arg3.IsWhole) (arg4 : Memref sig .tc .vmem S8x1x64x325 .bf16) (harg4 : arg4.IsWhole) (arg5 : Memref sig .tc .vmem S1x336x8x128 .i8) (harg5 : arg5.IsWhole) (arg6 : Memref sig .tc .vmem S1x336x8x128 .i8) (harg6 : arg6.IsWhole) (arg7 : Memref sig .tc .vmem S1x336x8x128 .i8) (harg7 : arg7.IsWhole) (arg8 : Memref sig .tc .vmem S8x1x64x325 .fp8e4m3) (harg8 : arg8.IsWhole) (arg9 : Memref sig .tc .vmem S1x8x64 .f32) (harg9 : arg9.IsWhole) (arg10 : Memref sig .tc .vmem S8x1x64x325 .bf16) (harg10 : arg10.IsWhole) (arg11 : Memref sig .tc .vmem S8x1x64x325 .bf16) (harg11 : arg11.IsWhole) (arg12 : Memref sig .tc .vmem S8x1x64x325 .bf16) (harg12 : arg12.IsWhole) (arg13 : Memref sig .tc .vmem S8x1x64x325 .bf16) (harg13 : arg13.IsWhole)
    (x0 : Vec F S12 .f32) (x1 : Vec F S8x1x64x325 .bf16) (x2 : Vec F S8x1x64x325 .bf16) (x3 : Vec F S1x336x8x128 .i8) (x4 : Vec F S1x336x8x128 .i8) (x5 : Vec F S1x336x8x128 .i8) (x6 : Vec F S8x1x64x325 .fp8e4m3) (x7 : Vec F S1x8x64 .f32) (x8 : Vec F S8x1x64x325 .bf16) (y : S8x1x64x325.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.2.1 S1x1x64x325.size (by sl_kernel_rfl) y

end Cert.KernelIdeal.Gen

end
-- ==== Proof.CodesKI.lean ====
/- THE CODES, READ. Four consecutive images' codes of one row and lane make one 32-bit word; a shift to the top and an
   arithmetic shift back cut one of them out, widened with its sign. Rows past the sequence (and, in the last tile, lanes past
   it) are zero, so what the body computes does not depend on what a buffer holds there. -/
module

public import proofs.«01_k».proof.Proof.OutKI
public import Idealize.ShloMosaic.Lib.BitcastFour
public import Idealize.ShloMosaic.Lib.Pointwise

@[expose] public section

set_option maxRecDepth 16384

noncomputable section

namespace Cert.KernelIdeal.Gen

open Cert.KernelIdeal Idealize.ShloMosaic Idealize.ShloMosaic.TcCoe

variable {F : FTy → Type} [FloatOps F]

/-- Bit `q` of the word of images 0 to 3 at row `r`, lane `l`, is bit `q % 8` of image `0 + q / 8`'s code there. -/
theorem word0_getLsbD (x : Vec F S1x336x8x128 .i8) (r : Fin 336) (l : Fin 128) (q : Nat) (hq : q < 32) :
    (Img.word0 x (ix2 r l)).getLsbD q = BitVec.getLsbD (w := 8) (x (ix4 (0 : Fin 1) r (⟨0 + q / 8, by omega⟩ : Fin 8) l)) (q % 8) := by
  unfold Img.word0
  pointwise []
  refine (bitcast_8_32_getLsbD x _ _ q hq).trans ?_
  congr 2
  funext a
  apply Fin.ext
  match a with
  | ⟨0, _⟩ => exact Shape.Bitcasts.srcIdx_other _ _ _ _ _ (show ¬ (0 + 2 = 4) by omega)
  | ⟨1, _⟩ => exact Shape.Bitcasts.srcIdx_other _ _ _ _ _ (show ¬ (1 + 2 = 4) by omega)
  | ⟨2, _⟩ => exact (Shape.Bitcasts.srcIdx_row bitcasts_S1x336x8x128_w8_S1x336x2x128_w32 _ _ _ _ (show 2 + 2 = 4 from rfl)).trans (by show 4 * 0 + q / 8 = q / 8; omega)
  | ⟨3, _⟩ => exact Shape.Bitcasts.srcIdx_other _ _ _ _ _ (show ¬ (3 + 2 = 4) by omega)

/-- Bit `q` of the word of images 4 to 7 at row `r`, lane `l`, is bit `q % 8` of image `4 + q / 8`'s code there. -/
theorem word1_getLsbD (x : Vec F S1x336x8x128 .i8) (r : Fin 336) (l : Fin 128) (q : Nat) (hq : q < 32) :
    (Img.word1 x (ix2 r l)).getLsbD q = BitVec.getLsbD (w := 8) (x (ix4 (0 : Fin 1) r (⟨4 + q / 8, by omega⟩ : Fin 8) l)) (q % 8) := by
  unfold Img.word1
  pointwise []
  refine (bitcast_8_32_getLsbD x _ _ q hq).trans ?_
  congr 2
  funext a
  apply Fin.ext
  match a with
  | ⟨0, _⟩ => exact Shape.Bitcasts.srcIdx_other _ _ _ _ _ (show ¬ (0 + 2 = 4) by omega)
  | ⟨1, _⟩ => exact Shape.Bitcasts.srcIdx_other _ _ _ _ _ (show ¬ (1 + 2 = 4) by omega)
  | ⟨2, _⟩ => exact (Shape.Bitcasts.srcIdx_row bitcasts_S1x336x8x128_w8_S1x336x2x128_w32 _ _ _ _ (show 2 + 2 = 4 from rfl)).trans (by show 4 * 1 + q / 8 = 4 + q / 8; omega)
  | ⟨3, _⟩ => exact Shape.Bitcasts.srcIdx_other _ _ _ _ _ (show ¬ (3 + 2 = 4) by omega)

/-- A word shifted left by `24 - 8 k` and arithmetically right by 24 is its byte `k`, widened with its sign. -/
theorem cut_byte (w : BitVec 32) (y : BitVec 8) (k : Nat) (hk : k < 4) (sh : BitVec 32) (hs : sh.toNat = 24 - 8 * k)
    (h : ∀ i, i < 8 → w.getLsbD (8 * k + i) = y.getLsbD i) :
    IntOp.shrsi .vector (IntOp.shli .vector w sh) 24#32 = y.signExtend 32 := by
  have e1 : IntOp.shli .vector w sh = w <<< (24 - 8 * k) := by
    unfold IntOp.shli
    rw [if_pos (by omega), BitVec.shiftLeft_eq', hs]
  have e2 : ∀ z : BitVec 32, IntOp.shrsi .vector z 24#32 = z.sshiftRight 24 := fun z => by
    unfold IntOp.shrsi
    rw [if_pos (by decide)]
    rfl
  rw [e1, e2]
  apply BitVec.eq_of_getLsbD_eq
  intro i hi
  simp only [BitVec.getLsbD_signExtend, BitVec.getLsbD_sshiftRight, BitVec.getLsbD_shiftLeft, BitVec.msb_eq_getLsbD_last]
  have h3 : ¬ (32 ≤ i) := by omega
  by_cases hi8 : i < 8
  · have e : 24 + i - (24 - 8 * k) = 8 * k + i := by omega
    have h1 : 24 + i < 32 := by omega
    have h2 : ¬ (24 + i < 24 - 8 * k) := by omega
    simp [h3, hi8, h1, h2, e, h i hi8, hi]
  · have e : 31 - (24 - 8 * k) = 8 * k + 7 := by omega
    have h1 : ¬ (24 + i < 32) := by omega
    have h2 : ¬ (31 < 24 - 8 * k) := by omega
    simp [h3, hi8, h1, h2, e, h 7 (by omega), hi]

/-- The row mask, read: one exactly on the rows of the sequence. -/
theorem rowMask_apply (r : Fin 336) : k0_pay5 (ix2 r (0 : Fin 1)) = if r.val < 325 then 1#1 else 0#1 := by
  revert r
  decide +kernel

/-- The lane mask, read: one exactly on the lanes of the sequence. -/
theorem laneMask_apply (l : Fin 128) : k0_pay4 (ix2 (0 : Fin 1) l) = if l.val < 69 then 1#1 else 0#1 := by
  revert l
  decide +kernel

/-- A tile of codes, read: zero past the sequence. -/
theorem code_apply (w : IVec S336x128 32) (sh : BitVec 32) (r : Fin 336) (l : Fin 128) :
    Img.code w sh (ix2 r l) = if r.val < 325 then IntOp.shrsi .vector (IntOp.shli .vector (w (ix2 r l)) sh) 24#32 else 0#32 := by
  unfold Img.code
  pointwise []
  rw [rowMask_apply]
  split <;> rfl

/-- The last tile of codes, read: zero past the sequence. -/
theorem codeTail_apply (w : IVec S336x128 32) (sh : BitVec 32) (r : Fin 336) (l : Fin 128) :
    Img.codeTail w sh (ix2 r l) = if l.val < 69 then Img.code w sh (ix2 r l) else 0#32 := by
  unfold Img.codeTail
  pointwise []
  rw [laneMask_apply]
  split <;> rfl

/-- Image `b`'s code at a row and lane: the byte there widened with its sign, zero past the sequence. -/
theorem codes_apply (b : Fin 8) (x : Vec F S1x336x8x128 .i8) (r : Fin 336) (l : Fin 128) :
    codes (F := F) b x (ix2 r l) = if r.val < 325 then BitVec.signExtend (w := 8) 32 (x (ix4 (0 : Fin 1) r b l)) else 0#32 := by
  match b with
  | 0 =>
    refine (code_apply _ _ r l).trans ?_
    split
    · exact cut_byte _ _ 0 (by omega) _ rfl fun i hi => (word0_getLsbD x r l (8 * 0 + i) (by omega)).trans
        (by rw [show (8 * 0 + i) % 8 = i by omega]; congr 3; exact Fin.ext (show 0 + (8 * 0 + i) / 8 = 0 by omega))
    · rfl
  | 1 =>
    refine (code_apply _ _ r l).trans ?_
    split
    · exact cut_byte _ _ 1 (by omega) _ rfl fun i hi => (word0_getLsbD x r l (8 * 1 + i) (by omega)).trans
        (by rw [show (8 * 1 + i) % 8 = i by omega]; congr 3; exact Fin.ext (show 0 + (8 * 1 + i) / 8 = 1 by omega))
    · rfl
  | 2 =>
    refine (code_apply _ _ r l).trans ?_
    split
    · exact cut_byte _ _ 2 (by omega) _ rfl fun i hi => (word0_getLsbD x r l (8 * 2 + i) (by omega)).trans
        (by rw [show (8 * 2 + i) % 8 = i by omega]; congr 3; exact Fin.ext (show 0 + (8 * 2 + i) / 8 = 2 by omega))
    · rfl
  | 3 =>
    refine (code_apply _ _ r l).trans ?_
    split
    · exact cut_byte _ _ 3 (by omega) _ rfl fun i hi => (word0_getLsbD x r l (8 * 3 + i) (by omega)).trans
        (by rw [show (8 * 3 + i) % 8 = i by omega]; congr 3; exact Fin.ext (show 0 + (8 * 3 + i) / 8 = 3 by omega))
    · rfl
  | 4 =>
    refine (code_apply _ _ r l).trans ?_
    split
    · exact cut_byte _ _ 0 (by omega) _ rfl fun i hi => (word1_getLsbD x r l (8 * 0 + i) (by omega)).trans
        (by rw [show (8 * 0 + i) % 8 = i by omega]; congr 3; exact Fin.ext (show 4 + (8 * 0 + i) / 8 = 4 by omega))
    · rfl
  | 5 =>
    refine (code_apply _ _ r l).trans ?_
    split
    · exact cut_byte _ _ 1 (by omega) _ rfl fun i hi => (word1_getLsbD x r l (8 * 1 + i) (by omega)).trans
        (by rw [show (8 * 1 + i) % 8 = i by omega]; congr 3; exact Fin.ext (show 4 + (8 * 1 + i) / 8 = 5 by omega))
    · rfl
  | 6 =>
    refine (code_apply _ _ r l).trans ?_
    split
    · exact cut_byte _ _ 2 (by omega) _ rfl fun i hi => (word1_getLsbD x r l (8 * 2 + i) (by omega)).trans
        (by rw [show (8 * 2 + i) % 8 = i by omega]; congr 3; exact Fin.ext (show 4 + (8 * 2 + i) / 8 = 6 by omega))
    · rfl
  | 7 =>
    refine (code_apply _ _ r l).trans ?_
    split
    · exact cut_byte _ _ 3 (by omega) _ rfl fun i hi => (word1_getLsbD x r l (8 * 3 + i) (by omega)).trans
        (by rw [show (8 * 3 + i) % 8 = i by omega]; congr 3; exact Fin.ext (show 4 + (8 * 3 + i) / 8 = 7 by omega))
    · rfl

/-- Image `b`'s code in the last tile at a row and lane. -/
theorem codesTail_apply (b : Fin 8) (x : Vec F S1x336x8x128 .i8) (r : Fin 336) (l : Fin 128) :
    codesTail (F := F) b x (ix2 r l) = if l.val < 69 then codes (F := F) b x (ix2 r l) else 0#32 := by
  match b with
  | 0 => exact codeTail_apply _ _ r l
  | 1 => exact codeTail_apply _ _ r l
  | 2 => exact codeTail_apply _ _ r l
  | 3 => exact codeTail_apply _ _ r l
  | 4 => exact codeTail_apply _ _ r l
  | 5 => exact codeTail_apply _ _ r l
  | 6 => exact codeTail_apply _ _ r l
  | 7 => exact codeTail_apply _ _ r l

/-- Codes of tiles that agree on the sequence's rows are the same. -/
theorem codes_congr (b : Fin 8) (x x' : Vec F S1x336x8x128 .i8) (h : ∀ z : S1x336x8x128.Idx, (z 1).val < 325 → x z = x' z) :
    codes (F := F) b x = codes (F := F) b x' := by
  funext j
  obtain ⟨r, l, rfl⟩ : ∃ (r : Fin 336) (l : Fin 128), j = ix2 r l := ⟨j 0, j 1, eq_ix2 _⟩
  rw [codes_apply, codes_apply]
  split
  · rename_i hr
    rw [h _ hr]
  · rfl

/-- Codes of last tiles that agree on the sequence's rows and lanes are the same. -/
theorem codesTail_congr (b : Fin 8) (x x' : Vec F S1x336x8x128 .i8)
    (h : ∀ z : S1x336x8x128.Idx, (z 1).val < 325 → (z 3).val < 69 → x z = x' z) :
    codesTail (F := F) b x = codesTail (F := F) b x' := by
  funext j
  obtain ⟨r, l, rfl⟩ : ∃ (r : Fin 336) (l : Fin 128), j = ix2 r l := ⟨j 0, j 1, eq_ix2 _⟩
  rw [codesTail_apply, codesTail_apply]
  split
  · rename_i hl
    rw [codes_apply, codes_apply]
    split
    · rename_i hr
      rw [h _ hr hl]
    · rfl
  · rfl

end Cert.KernelIdeal.Gen

end
-- ==== Proof.FrameKI.lean ====
/- THE FRAME CERTIFICATE. The proof data of the one pipeline — after the body every input's staging buffer holds its block
   (the tiles of codes overhang the array, so theirs is filled out with zeros past the array's end) and every output's the
   block computed from the inputs' (`outDq`, `outDk`, `outDv`) —, the body's obligation, the run of @main and the frame claim.
   What a clipped tile's buffer holds past the array's end is anything; the body masks it (`codes_congr`, `codesTail_congr`). -/
module

public import proofs.«01_k».proof.Proof.CodesKI
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs -/

/-- Window 0's current staging buffer. -/
abbrev ms0_0 (t : Fin cfg0.N) : Memref sig .tc .smem S12 .f32 := win0_0.stage (cfg0.slots t 0)
/-- It is whole. -/
abbrev hs0_0 (t : Fin cfg0.N) : (ms0_0 t).IsWhole := hstage0_0 ((cfg0.slots t 0).cast nbuf0_0)
/-- Window 1's current staging buffer. -/
abbrev ms0_1 (t : Fin cfg0.N) : Memref sig .tc .vmem S8x1x64x325 .bf16 := win0_1.stage (cfg0.slots t 1)
/-- It is whole. -/
abbrev hs0_1 (t : Fin cfg0.N) : (ms0_1 t).IsWhole := hstage0_1 ((cfg0.slots t 1).cast nbuf0_1)
/-- Window 2's current staging buffer. -/
abbrev ms0_2 (t : Fin cfg0.N) : Memref sig .tc .vmem S8x1x64x325 .bf16 := win0_2.stage (cfg0.slots t 2)
/-- It is whole. -/
abbrev hs0_2 (t : Fin cfg0.N) : (ms0_2 t).IsWhole := hstage0_2 ((cfg0.slots t 2).cast nbuf0_2)
/-- Window 3's current staging buffer. -/
abbrev ms0_3 (t : Fin cfg0.N) : Memref sig .tc .vmem S1x336x8x128 .i8 := win0_3.stage (cfg0.slots t 3)
/-- It is whole. -/
abbrev hs0_3 (t : Fin cfg0.N) : (ms0_3 t).IsWhole := hstage0_3 ((cfg0.slots t 3).cast nbuf0_3)
/-- Window 4's current staging buffer. -/
abbrev ms0_4 (t : Fin cfg0.N) : Memref sig .tc .vmem S1x336x8x128 .i8 := win0_4.stage (cfg0.slots t 4)
/-- It is whole. -/
abbrev hs0_4 (t : Fin cfg0.N) : (ms0_4 t).IsWhole := hstage0_4 ((cfg0.slots t 4).cast nbuf0_4)
/-- Window 5's current staging buffer. -/
abbrev ms0_5 (t : Fin cfg0.N) : Memref sig .tc .vmem S1x336x8x128 .i8 := win0_5.stage (cfg0.slots t 5)
/-- It is whole. -/
abbrev hs0_5 (t : Fin cfg0.N) : (ms0_5 t).IsWhole := hstage0_5 ((cfg0.slots t 5).cast nbuf0_5)
/-- Window 6's current staging buffer. -/
abbrev ms0_6 (t : Fin cfg0.N) : Memref sig .tc .vmem S8x1x64x325 .fp8e4m3 := win0_6.stage (cfg0.slots t 6)
/-- It is whole. -/
abbrev hs0_6 (t : Fin cfg0.N) : (ms0_6 t).IsWhole := hstage0_6 ((cfg0.slots t 6).cast nbuf0_6)
/-- Window 7's current staging buffer. -/
abbrev ms0_7 (t : Fin cfg0.N) : Memref sig .tc .vmem S1x8x64 .f32 := win0_7.stage (cfg0.slots t 7)
/-- It is whole. -/
abbrev hs0_7 (t : Fin cfg0.N) : (ms0_7 t).IsWhole := hstage0_7 ((cfg0.slots t 7).cast nbuf0_7)
/-- Window 8's current staging buffer. -/
abbrev ms0_8 (t : Fin cfg0.N) : Memref sig .tc .vmem S8x1x64x325 .bf16 := win0_8.stage (cfg0.slots t 8)
/-- It is whole. -/
abbrev hs0_8 (t : Fin cfg0.N) : (ms0_8 t).IsWhole := hstage0_8 ((cfg0.slots t 8).cast nbuf0_8)
/-- Window 9's current staging buffer. -/
abbrev ms0_9 (t : Fin cfg0.N) : Memref sig .tc .vmem S8x1x64x325 .bf16 := win0_9.stage (cfg0.slots t 9)
/-- It is whole. -/
abbrev hs0_9 (t : Fin cfg0.N) : (ms0_9 t).IsWhole := hstage0_9 ((cfg0.slots t 9).cast nbuf0_9)
/-- Window 10's current staging buffer. -/
abbrev ms0_10 (t : Fin cfg0.N) : Memref sig .tc .vmem S8x1x64x325 .bf16 := win0_10.stage (cfg0.slots t 10)
/-- It is whole. -/
abbrev hs0_10 (t : Fin cfg0.N) : (ms0_10 t).IsWhole := hstage0_10 ((cfg0.slots t 10).cast nbuf0_10)
/-- Window 11's current staging buffer. -/
abbrev ms0_11 (t : Fin cfg0.N) : Memref sig .tc .vmem S8x1x64x325 .bf16 := win0_11.stage (cfg0.slots t 11)
/-- It is whole. -/
abbrev hs0_11 (t : Fin cfg0.N) : (ms0_11 t).IsWhole := hstage0_11 ((cfg0.slots t 11).cast nbuf0_11)

/-! ## The clipped tiles -/

/-- What the transfers of the first two tiles move: all but the rows past the array's end. -/
theorem xsize3 : ∀ (t : Fin cfg0.N) (a : Fin 4), win0_3.xsize (grid0.coords t) a = (![1, 325, 8, 128] : Fin 4 → Nat) a :=
  (by decide +kernel : ∀ (t : Fin grid0.N) (a : Fin 4), _)
/-- What the transfers of the middle tile move: all but the rows past the array's end. -/
theorem xsize4 : ∀ (t : Fin cfg0.N) (a : Fin 4), win0_4.xsize (grid0.coords t) a = (![1, 325, 8, 128] : Fin 4 → Nat) a :=
  (by decide +kernel : ∀ (t : Fin grid0.N) (a : Fin 4), _)
/-- What the transfers of the last tile move: all but the rows and lanes past the array's end. -/
theorem xsize5 : ∀ (t : Fin cfg0.N) (a : Fin 4), win0_5.xsize (grid0.coords t) a = (![1, 325, 8, 69] : Fin 4 → Nat) a :=
  (by decide +kernel : ∀ (t : Fin grid0.N) (a : Fin 4), _)

/-- An index of the sequence is one that the transfer of window 3's tile moves, -/
theorem moved3 (t : Fin cfg0.N) (z : S1x336x8x128.Idx) (h1 : (z 1).val < 325) : win0_3.moved (grid0.coords t) z = true :=
  (win0_3.moved_iff _ z).mpr fun a => by
    rw [xsize3]
    match a with
    | ⟨0, _⟩ => exact (z 0).isLt
    | ⟨1, _⟩ => exact h1
    | ⟨2, _⟩ => exact (z 2).isLt
    | ⟨3, _⟩ => exact (z 3).isLt
/-- so there the buffer's contents do not depend on what filled it out. -/
theorem fill3 (t : Fin cfg0.N) (d d' : S1x336x8x128.Idx → Elt F .i8) (g) (z : S1x336x8x128.Idx) (h1 : (z 1).val < 325) :
    win0_3.fill (grid0.coords t) d g z = win0_3.fill (grid0.coords t) d' g z := by
  have hm := moved3 t z h1
  unfold Window.fill
  rw [dif_pos hm, dif_pos hm]
/-- Window 3's tile at point `t`, filled out with zeros. -/
def tile3 (c : Dev nD) (t : Fin cfg0.N) : Vec F S1x336x8x128 .i8 := win0_3.fill (grid0.coords t) (fun _ => (0#8 : BitVec 8)) (iblk m c 3 t)
/-- What the body finds there, filled out with anything, cuts to the same block. -/
theorem cut_tile3 (c : Dev nD) (t : Fin cfg0.N) : win0_3.cut (grid0.coords t) (tile3 m c t) = iblk m c 3 t := win0_3.cut_fill _ _ _

/-- An index of the sequence is one that the transfer of window 4's tile moves, -/
theorem moved4 (t : Fin cfg0.N) (z : S1x336x8x128.Idx) (h1 : (z 1).val < 325) : win0_4.moved (grid0.coords t) z = true :=
  (win0_4.moved_iff _ z).mpr fun a => by
    rw [xsize4]
    match a with
    | ⟨0, _⟩ => exact (z 0).isLt
    | ⟨1, _⟩ => exact h1
    | ⟨2, _⟩ => exact (z 2).isLt
    | ⟨3, _⟩ => exact (z 3).isLt
/-- so there the buffer's contents do not depend on what filled it out. -/
theorem fill4 (t : Fin cfg0.N) (d d' : S1x336x8x128.Idx → Elt F .i8) (g) (z : S1x336x8x128.Idx) (h1 : (z 1).val < 325) :
    win0_4.fill (grid0.coords t) d g z = win0_4.fill (grid0.coords t) d' g z := by
  have hm := moved4 t z h1
  unfold Window.fill
  rw [dif_pos hm, dif_pos hm]
/-- Window 4's tile at point `t`, filled out with zeros. -/
def tile4 (c : Dev nD) (t : Fin cfg0.N) : Vec F S1x336x8x128 .i8 := win0_4.fill (grid0.coords t) (fun _ => (0#8 : BitVec 8)) (iblk m c 4 t)
/-- What the body finds there, filled out with anything, cuts to the same block. -/
theorem cut_tile4 (c : Dev nD) (t : Fin cfg0.N) : win0_4.cut (grid0.coords t) (tile4 m c t) = iblk m c 4 t := win0_4.cut_fill _ _ _

/-- An index of the sequence is one that the transfer of window 5's tile moves, -/
theorem moved5 (t : Fin cfg0.N) (z : S1x336x8x128.Idx) (h1 : (z 1).val < 325) (h3 : (z 3).val < 69) : win0_5.moved (grid0.coords t) z = true :=
  (win0_5.moved_iff _ z).mpr fun a => by
    rw [xsize5]
    match a with
    | ⟨0, _⟩ => exact (z 0).isLt
    | ⟨1, _⟩ => exact h1
    | ⟨2, _⟩ => exact (z 2).isLt
    | ⟨3, _⟩ => exact h3
/-- so there the buffer's contents do not depend on what filled it out. -/
theorem fill5 (t : Fin cfg0.N) (d d' : S1x336x8x128.Idx → Elt F .i8) (g) (z : S1x336x8x128.Idx) (h1 : (z 1).val < 325) (h3 : (z 3).val < 69) :
    win0_5.fill (grid0.coords t) d g z = win0_5.fill (grid0.coords t) d' g z := by
  have hm := moved5 t z h1 h3
  unfold Window.fill
  rw [dif_pos hm, dif_pos hm]
/-- Window 5's tile at point `t`, filled out with zeros. -/
def tile5 (c : Dev nD) (t : Fin cfg0.N) : Vec F S1x336x8x128 .i8 := win0_5.fill (grid0.coords t) (fun _ => (0#8 : BitVec 8)) (iblk m c 5 t)
/-- What the body finds there, filled out with anything, cuts to the same block. -/
theorem cut_tile5 (c : Dev nD) (t : Fin cfg0.N) : win0_5.cut (grid0.coords t) (tile5 m c t) = iblk m c 5 t := win0_5.cut_fill _ _ _

/-- Output 9's block at point `t`. -/
def oblkDq (c : Dev nD) (t : Fin cfg0.N) : Vec F S8x1x64x325 .bf16 :=
  outDq (scale (grid0.coords t) (iblk m c 0 t)) (iblk m c 2 t) (tile3 m c t) (tile4 m c t) (tile5 m c t) (iblk m c 6 t) (iblk m c 7 t) (iblk m c 8 t)
/-- It is what the body computes from tiles filled out with anything. -/
theorem oblkDq_eq (c : Dev nD) (t : Fin cfg0.N) (d3 d4 d5 : S1x336x8x128.Idx → Elt F .i8) :
    outDq (scale (grid0.coords t) (iblk m c 0 t)) (iblk m c 2 t) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) = oblkDq m c t := by
  funext y
  unfold oblkDq outDq
  have h3 : codes (F := F) (y 0) (win0_3.fill (grid0.coords t) d3 (iblk m c 3 t)) = codes (F := F) (y 0) (tile3 m c t) :=
    codes_congr (F := F) _ _ _ (fun z h => fill3 t d3 _ _ z h)
  have h4 : codes (F := F) (y 0) (win0_4.fill (grid0.coords t) d4 (iblk m c 4 t)) = codes (F := F) (y 0) (tile4 m c t) :=
    codes_congr (F := F) _ _ _ (fun z h => fill4 t d4 _ _ z h)
  have h5 : codesTail (F := F) (y 0) (win0_5.fill (grid0.coords t) d5 (iblk m c 5 t)) = codesTail (F := F) (y 0) (tile5 m c t) :=
    codesTail_congr (F := F) _ _ _ (fun z h h' => fill5 t d5 _ _ z h h')
  rw [h3, h4, h5]

/-- Output 10's block at point `t`. -/
def oblkDk (c : Dev nD) (t : Fin cfg0.N) : Vec F S8x1x64x325 .bf16 :=
  outDk (scale (grid0.coords t) (iblk m c 0 t)) (iblk m c 1 t) (tile3 m c t) (tile4 m c t) (tile5 m c t) (iblk m c 6 t) (iblk m c 7 t) (iblk m c 8 t)
/-- It is what the body computes from tiles filled out with anything. -/
theorem oblkDk_eq (c : Dev nD) (t : Fin cfg0.N) (d3 d4 d5 : S1x336x8x128.Idx → Elt F .i8) :
    outDk (scale (grid0.coords t) (iblk m c 0 t)) (iblk m c 1 t) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) = oblkDk m c t := by
  funext y
  unfold oblkDk outDk
  have h3 : codes (F := F) (y 0) (win0_3.fill (grid0.coords t) d3 (iblk m c 3 t)) = codes (F := F) (y 0) (tile3 m c t) :=
    codes_congr (F := F) _ _ _ (fun z h => fill3 t d3 _ _ z h)
  have h4 : codes (F := F) (y 0) (win0_4.fill (grid0.coords t) d4 (iblk m c 4 t)) = codes (F := F) (y 0) (tile4 m c t) :=
    codes_congr (F := F) _ _ _ (fun z h => fill4 t d4 _ _ z h)
  have h5 : codesTail (F := F) (y 0) (win0_5.fill (grid0.coords t) d5 (iblk m c 5 t)) = codesTail (F := F) (y 0) (tile5 m c t) :=
    codesTail_congr (F := F) _ _ _ (fun z h h' => fill5 t d5 _ _ z h h')
  rw [h3, h4, h5]

/-- Output 11's block at point `t`. -/
def oblkDv (c : Dev nD) (t : Fin cfg0.N) : Vec F S8x1x64x325 .bf16 :=
  outDv (scale (grid0.coords t) (iblk m c 0 t)) (tile3 m c t) (tile4 m c t) (tile5 m c t) (iblk m c 8 t)
/-- It is what the body computes from tiles filled out with anything. -/
theorem oblkDv_eq (c : Dev nD) (t : Fin cfg0.N) (d3 d4 d5 : S1x336x8x128.Idx → Elt F .i8) :
    outDv (scale (grid0.coords t) (iblk m c 0 t)) (win0_3.fill (grid0.coords t) d3 (iblk m c 3 t)) (win0_4.fill (grid0.coords t) d4 (iblk m c 4 t)) (win0_5.fill (grid0.coords t) d5 (iblk m c 5 t)) (iblk m c 8 t) = oblkDv m c t := by
  funext y
  unfold oblkDv outDv
  have h3 : codes (F := F) (y 0) (win0_3.fill (grid0.coords t) d3 (iblk m c 3 t)) = codes (F := F) (y 0) (tile3 m c t) :=
    codes_congr (F := F) _ _ _ (fun z h => fill3 t d3 _ _ z h)
  have h4 : codes (F := F) (y 0) (win0_4.fill (grid0.coords t) d4 (iblk m c 4 t)) = codes (F := F) (y 0) (tile4 m c t) :=
    codes_congr (F := F) _ _ _ (fun z h => fill4 t d4 _ _ z h)
  have h5 : codesTail (F := F) (y 0) (win0_5.fill (grid0.coords t) d5 (iblk m c 5 t)) = codesTail (F := F) (y 0) (tile5 m c t) :=
    codesTail_congr (F := F) _ _ _ (fun z h h' => fill5 t d5 _ _ z h h')
  rw [h3, h4, h5]

/-! ## The pipeline's proof data -/

/-- The proof data of the one pipeline on core `c`: the arrays as the region finds them (`V`); after the body at point `t` each
    input's buffer at its block and the outputs' at the computed blocks; nothing owed; each input's share of its array (the full
    share of the codes' array, which three windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tile3 m c t
    | ⟨4, _⟩ => tile4 m c t
    | ⟨5, _⟩ => tile5 m c t
    | ⟨6, _⟩ => iblk m c 6 t
    | ⟨7, _⟩ => iblk m c 7 t
    | ⟨8, _⟩ => iblk m c 8 t
    | ⟨9, _⟩ => oblkDq m c t
    | ⟨10, _⟩ => oblkDk m c t
    | ⟨11, _⟩ => oblkDv m c t
  Φ _ := Pipeline.ΦA spec0 c
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
/-- Input window 1 holds its block after a point. -/
theorem after0_1 (c : Dev nD) (t : Fin cfg0.N) : (dats m 0 c).after 1 t = iblk m c 1 t := by dsimp only [dats]
/-- Input window 2 holds its block after a point. -/
theorem after0_2 (c : Dev nD) (t : Fin cfg0.N) : (dats m 0 c).after 2 t = iblk m c 2 t := by dsimp only [dats]
/-- Input window 3 holds its block after a point. -/
theorem after0_3 (c : Dev nD) (t : Fin cfg0.N) : (dats m 0 c).after 3 t = tile3 m c t := by dsimp only [dats]
/-- Input window 4 holds its block after a point. -/
theorem after0_4 (c : Dev nD) (t : Fin cfg0.N) : (dats m 0 c).after 4 t = tile4 m c t := by dsimp only [dats]
/-- Input window 5 holds its block after a point. -/
theorem after0_5 (c : Dev nD) (t : Fin cfg0.N) : (dats m 0 c).after 5 t = tile5 m c t := by dsimp only [dats]
/-- Input window 6 holds its block after a point. -/
theorem after0_6 (c : Dev nD) (t : Fin cfg0.N) : (dats m 0 c).after 6 t = iblk m c 6 t := by dsimp only [dats]
/-- Input window 7 holds its block after a point. -/
theorem after0_7 (c : Dev nD) (t : Fin cfg0.N) : (dats m 0 c).after 7 t = iblk m c 7 t := by dsimp only [dats]
/-- Input window 8 holds its block after a point. -/
theorem after0_8 (c : Dev nD) (t : Fin cfg0.N) : (dats m 0 c).after 8 t = iblk m c 8 t := by dsimp only [dats]
/-- What output window 9 holds after a point. -/
theorem after0_9 (c : Dev nD) (t : Fin cfg0.N) : (dats m 0 c).after 9 t = oblkDq m c t := by dsimp only [dats]
/-- What output window 10 holds after a point. -/
theorem after0_10 (c : Dev nD) (t : Fin cfg0.N) : (dats m 0 c).after 10 t = oblkDk m c t := by dsimp only [dats]
/-- What output window 11 holds after a point. -/
theorem after0_11 (c : Dev nD) (t : Fin cfg0.N) : (dats m 0 c).after 11 t = oblkDv m c t := by dsimp only [dats]

/-! What the body finds in the inputs' buffers. -/
theorem before0_0 (c : Dev nD) (t : Fin cfg0.N) (d) : (dats m 0 c).before 0 t d = iblk m c 0 t :=
  before0_0_of m (dats m 0 c) (A_eq m c 0) (after0_0 m c) t d
/-- Input window 1 holds its block before a point. -/
theorem before0_1 (c : Dev nD) (t : Fin cfg0.N) (d) : (dats m 0 c).before 1 t d = iblk m c 1 t :=
  before0_1_of m (dats m 0 c) (A_eq m c 1) (after0_1 m c) t d
/-- Input window 2 holds its block before a point. -/
theorem before0_2 (c : Dev nD) (t : Fin cfg0.N) (d) : (dats m 0 c).before 2 t d = iblk m c 2 t :=
  before0_2_of m (dats m 0 c) (A_eq m c 2) (after0_2 m c) t d
/-- Input window 3 holds its block before a point. -/
theorem before0_3 (c : Dev nD) (t : Fin cfg0.N) (d) : (dats m 0 c).before 3 t d = win0_3.fill (grid0.coords t) d (iblk m c 3 t) := by
  unfold Dat.before
  rw [if_pos (fetch0_3 t)]
  unfold Dat.fetched Dat.blockOf iblk
  rw [A_eq]
/-- Input window 4 holds its block before a point. -/
theorem before0_4 (c : Dev nD) (t : Fin cfg0.N) (d) : (dats m 0 c).before 4 t d = win0_4.fill (grid0.coords t) d (iblk m c 4 t) := by
  unfold Dat.before
  rw [if_pos (fetch0_4 t)]
  unfold Dat.fetched Dat.blockOf iblk
  rw [A_eq]
/-- Input window 5 holds its block before a point. -/
theorem before0_5 (c : Dev nD) (t : Fin cfg0.N) (d) : (dats m 0 c).before 5 t d = win0_5.fill (grid0.coords t) d (iblk m c 5 t) := by
  unfold Dat.before
  rw [if_pos (fetch0_5 t)]
  unfold Dat.fetched Dat.blockOf iblk
  rw [A_eq]
/-- Input window 6 holds its block before a point. -/
theorem before0_6 (c : Dev nD) (t : Fin cfg0.N) (d) : (dats m 0 c).before 6 t d = iblk m c 6 t :=
  before0_6_of m (dats m 0 c) (A_eq m c 6) (after0_6 m c) t d
/-- Input window 7 holds its block before a point. -/
theorem before0_7 (c : Dev nD) (t : Fin cfg0.N) (d) : (dats m 0 c).before 7 t d = iblk m c 7 t :=
  before0_7_of m (dats m 0 c) (A_eq m c 7) (after0_7 m c) t d
/-- Input window 8 holds its block before a point. -/
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))
/-- and what it returns: a clipped tile's buffer on the part inside the array. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare (win0_3.fill (grid0.coords t) d (win0_3.cut (grid0.coords t) ((dats m 0 c).after 3 t))))
    ∗ (∃ d, owns (c : Thread nD τ) (ms0_4 t) fullShare (win0_4.fill (grid0.coords t) d (win0_4.cut (grid0.coords t) ((dats m 0 c).after 4 t))))
    ∗ (∃ d, owns (c : Thread nD τ) (ms0_5 t) fullShare (win0_5.fill (grid0.coords t) d (win0_5.cut (grid0.coords t) ((dats m 0 c).after 5 t))))
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 1600000 in
/-- The body at any point: the run applies to what the buffers hold; what it leaves in an output's buffer is that output's block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11,
    cut_tile3, cut_tile4, cut_tile5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ (iblk m c 0 t) (iblk m c 1 t) (iblk m c 2 t) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, ⟨%e9, H9⟩, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexists d3; iexact H3
  isplitl [H4]; · iexists d4; iexact H4
  isplitl [H5]; · iexists d5; iexact H5
  isplitl [H6]; · iexact H6
  isplitl [H7]; · iexact H7
  isplitl [H8]; · iexact H8
  isplitl [H9]
  · unfold owns; iexists _; isplitr
    swap; · iexact H9
    ipureintro
    rw [← oblkDq_eq m c t d3 d4 d5]
    funext y
    exact View.read_writes_apply_of_pieces _ _ _ _ (piecesDq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t)).mem y (coverDq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) y)
  isplitl [H10]
  · unfold owns; iexists _; isplitr
    swap; · iexact H10
    ipureintro
    rw [← oblkDk_eq m c t d3 d4 d5]
    funext y
    exact View.read_writes_apply_of_pieces _ _ _ _ (piecesDk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t)).mem y (coverDk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) y)
  unfold owns; iexists _; isplitr
  swap; · iexact H11
  ipureintro
  rw [← oblkDv_eq m c t d3 d4 d5]
  funext y
  exact View.read_writes_apply_of_pieces _ _ _ _ (piecesDv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t)).mem y (coverDv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (win0_3.fill (grid0.coords t) d3 (iblk m c 3 t)) (win0_4.fill (grid0.coords t) d4 (iblk m c 4 t)) (win0_5.fill (grid0.coords t) d5 (iblk m c 5 t)) (iblk m c 6 t) (iblk m c 7 t) (iblk m c 8 t) y)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## The run and the frame -/

-- the launch theorem's implicit arguments are found by unifying its conclusion with this one, which takes unfolding plain
-- definitions in a metavariable's type
set_option backward.isDefEq.respectTransparency.types false in
/-- THE LAUNCH: every weakly fair execution of @main terminates, and every final state has every array of the pipeline at what
    the library computes from the proof data, every other buffer at what the host operations leave, and every semaphore counter
    at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := body_obligation m) (hq := fun _ _ _ => rfl) (howed := fun _ _ => rfl) (V₀ := V0 m) (opss := [hostOps1])
    (hsub := sfx_sub) (hfresh := sfx_fresh) (hkeep := sfx_keeps) (hmain := hmain m Variants.none) (hA := A_eq m) (hΦ := fun _ _ => rfl)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Gen

end
-- ==== Proof.InputsKI.lean ====
/- WHAT THE BODY LOADS, READ FROM THE ARGUMENTS. Point `t` of the grid is head `t / 6` and group `t % 6` of eight images; each
   window's block there, at an index, is one entry of the argument that the lines before the region transpose into its array. -/
module

public import proofs.«01_k».proof.Proof.FrameKI
public import Idealize.ShloMosaic.Lib.Pointwise
public import Idealize.ShloMosaic.Lib.Pipeline.Value

@[expose] public section

noncomputable section

namespace Cert.KernelIdeal.Gen

open Idealize.ShloMosaic Idealize.ShloMosaic.TcCoe Idealize.SL.Sem
open Idealize.ShloMosaic.Pipeline (Dat Window)

variable {F : FTy → Type} [FloatOps F]
variable (m : (ℓ : Loc nD τ sig) → Buf (Elt F) ℓ)

/-! ## Head and images of a point -/

/-- There are 72 points. -/
theorem lt72 (t : Fin cfg0.N) : t.val < 72 := t.isLt

/-- The head of a point. -/
def head (t : Fin cfg0.N) : Fin 12 := ⟨t.val / 6, by have := lt72 t; omega⟩
/-- The image at place `b` of a point's group. -/
def img (t : Fin cfg0.N) (b : Fin 8) : Fin 48 := ⟨8 * (t.val % 6) + b.val, by have := lt72 t; omega⟩

/-- A point's first coordinate is its head. -/
theorem first_coord : ∀ t : Fin cfg0.N, ((grid0.coords t) 0).val = t.val / 6 :=
  (by decide +kernel : ∀ t : Fin grid0.N, _)

/-! ## The arrays the region finds -/

/-- The transposed argument the region finds in `main_v0`. -/
theorem V_main_v0 (c : Dev nD) : V m c main_v0 = transpose S12x325x48x325 [1, 2, 0, 3] (m ((c : Thread nD τ).loc main_arg2)) transposes_S48x12x325x325_S12x325x48x325_1_2_0_3 := by
  show StableHlo.after (List.flatten [hostOps0]) (fun b => m (c, b)) (Proc.devRef .tc main_v0) = _
  simp only [hostOps0, List.flatten_cons, List.flatten_nil, List.append_nil, List.cons_append, List.nil_append]
  after_results_simp

/-- The transposed argument the region finds in `main_v1`. -/
theorem V_main_v1 (c : Dev nD) : V m c main_v1 = transpose S12x48x64 [1, 0, 2] (m ((c : Thread nD τ).loc main_arg5)) transposes_S48x12x64_S12x48x64_1_0_2 := by
  show StableHlo.after (List.flatten [hostOps0]) (fun b => m (c, b)) (Proc.devRef .tc main_v1) = _
  simp only [hostOps0, List.flatten_cons, List.flatten_nil, List.append_nil, List.cons_append, List.nil_append]
  after_results_simp

/-- The transposed argument the region finds in `main_v2`. -/
theorem V_main_v2 (c : Dev nD) : V m c main_v2 = transpose S48x12x64x325 [0, 2, 3, 1] (m ((c : Thread nD τ).loc main_arg0)) transposes_S48x325x12x64_S48x12x64x325_0_2_3_1 := by
  show StableHlo.after (List.flatten [hostOps0]) (fun b => m (c, b)) (Proc.devRef .tc main_v2) = _
  simp only [hostOps0, List.flatten_cons, List.flatten_nil, List.append_nil, List.cons_append, List.nil_append]
  after_results_simp

/-- The transposed argument the region finds in `main_v3`. -/
theorem V_main_v3 (c : Dev nD) : V m c main_v3 = transpose S48x12x64x325 [0, 2, 3, 1] (m ((c : Thread nD τ).loc main_arg1)) transposes_S48x325x12x64_S48x12x64x325_0_2_3_1 := by
  show StableHlo.after (List.flatten [hostOps0]) (fun b => m (c, b)) (Proc.devRef .tc main_v3) = _
  simp only [hostOps0, List.flatten_cons, List.flatten_nil, List.append_nil, List.cons_append, List.nil_append]
  after_results_simp

/-- The transposed argument the region finds in `main_v4`. -/
theorem V_main_v4 (c : Dev nD) : V m c main_v4 = transpose S48x12x64x325 [0, 2, 3, 1] (m ((c : Thread nD τ).loc main_arg4)) transposes_S48x325x12x64_S48x12x64x325_0_2_3_1 := by
  show StableHlo.after (List.flatten [hostOps0]) (fun b => m (c, b)) (Proc.devRef .tc main_v4) = _
  simp only [hostOps0, List.flatten_cons, List.flatten_nil, List.append_nil, List.cons_append, List.nil_append]
  after_results_simp

/-- The transposed argument the region finds in `main_v5`. -/
theorem V_main_v5 (c : Dev nD) : V m c main_v5 = transpose S48x12x64x325 [0, 2, 3, 1] (m ((c : Thread nD τ).loc main_arg6)) transposes_S48x325x12x64_S48x12x64x325_0_2_3_1 := by
  show StableHlo.after (List.flatten [hostOps0]) (fun b => m (c, b)) (Proc.devRef .tc main_v5) = _
  simp only [hostOps0, List.flatten_cons, List.flatten_nil, List.append_nil, List.cons_append, List.nil_append]
  after_results_simp

/-! ## The blocks -/

/-- The block index of window 1 at each point. -/
theorem idx1 : ∀ t : Fin cfg0.N, win0_1.index t (0 : Fin 4) = t.val % 6 ∧ win0_1.index t (1 : Fin 4) = t.val / 6
    ∧ win0_1.index t (2 : Fin 4) = 0 ∧ win0_1.index t (3 : Fin 4) = 0 :=
  (by decide +kernel : ∀ t : Fin grid0.N, _)
/-- Where window 1's block lies in its array. -/
theorem emb1 (t : Fin cfg0.N) (b : Fin 8) (i : Fin 64) (s : Fin 325) :
    ((cfg0.win 1).blk t).view.emb (ix4 b (0 : Fin 1) i s : S8x1x64x325.Idx) = (ix4 (img t b) (head t) i s : S48x12x64x325.Idx) := by
  obtain ⟨e0, e1, e2, e3⟩ := idx1 t
  funext a; apply Fin.ext
  match a with
  | ⟨0, _⟩ => show win0_1.index t (0 : Fin 4) * 8 + 1 * b.val = 8 * (t.val % 6) + b.val; omega
  | ⟨1, _⟩ => show win0_1.index t (1 : Fin 4) * 1 + 1 * 0 = t.val / 6; omega
  | ⟨2, _⟩ => show win0_1.index t (2 : Fin 4) * 64 + 1 * i.val = i.val; omega
  | ⟨3, _⟩ => show win0_1.index t (3 : Fin 4) * 325 + 1 * s.val = s.val; omega

/-- The block index of window 2 at each point. -/
theorem idx2 : ∀ t : Fin cfg0.N, win0_2.index t (0 : Fin 4) = t.val % 6 ∧ win0_2.index t (1 : Fin 4) = t.val / 6
    ∧ win0_2.index t (2 : Fin 4) = 0 ∧ win0_2.index t (3 : Fin 4) = 0 :=
  (by decide +kernel : ∀ t : Fin grid0.N, _)
/-- Where window 2's block lies in its array. -/
theorem emb2 (t : Fin cfg0.N) (b : Fin 8) (i : Fin 64) (s : Fin 325) :
    ((cfg0.win 2).blk t).view.emb (ix4 b (0 : Fin 1) i s : S8x1x64x325.Idx) = (ix4 (img t b) (head t) i s : S48x12x64x325.Idx) := by
  obtain ⟨e0, e1, e2, e3⟩ := idx2 t
  funext a; apply Fin.ext
  match a with
  | ⟨0, _⟩ => show win0_2.index t (0 : Fin 4) * 8 + 1 * b.val = 8 * (t.val % 6) + b.val; omega
  | ⟨1, _⟩ => show win0_2.index t (1 : Fin 4) * 1 + 1 * 0 = t.val / 6; omega
  | ⟨2, _⟩ => show win0_2.index t (2 : Fin 4) * 64 + 1 * i.val = i.val; omega
  | ⟨3, _⟩ => show win0_2.index t (3 : Fin 4) * 325 + 1 * s.val = s.val; omega

/-- The block index of window 6 at each point. -/
theorem idx6 : ∀ t : Fin cfg0.N, win0_6.index t (0 : Fin 4) = t.val % 6 ∧ win0_6.index t (1 : Fin 4) = t.val / 6
    ∧ win0_6.index t (2 : Fin 4) = 0 ∧ win0_6.index t (3 : Fin 4) = 0 :=
  (by decide +kernel : ∀ t : Fin grid0.N, _)
/-- Where window 6's block lies in its array. -/
theorem emb6 (t : Fin cfg0.N) (b : Fin 8) (i : Fin 64) (s : Fin 325) :
    ((cfg0.win 6).blk t).view.emb (ix4 b (0 : Fin 1) i s : S8x1x64x325.Idx) = (ix4 (img t b) (head t) i s : S48x12x64x325.Idx) := by
  obtain ⟨e0, e1, e2, e3⟩ := idx6 t
  funext a; apply Fin.ext
  match a with
  | ⟨0, _⟩ => show win0_6.index t (0 : Fin 4) * 8 + 1 * b.val = 8 * (t.val % 6) + b.val; omega
  | ⟨1, _⟩ => show win0_6.index t (1 : Fin 4) * 1 + 1 * 0 = t.val / 6; omega
  | ⟨2, _⟩ => show win0_6.index t (2 : Fin 4) * 64 + 1 * i.val = i.val; omega
  | ⟨3, _⟩ => show win0_6.index t (3 : Fin 4) * 325 + 1 * s.val = s.val; omega

/-- The block index of window 8 at each point. -/
theorem idx8 : ∀ t : Fin cfg0.N, win0_8.index t (0 : Fin 4) = t.val % 6 ∧ win0_8.index t (1 : Fin 4) = t.val / 6
    ∧ win0_8.index t (2 : Fin 4) = 0 ∧ win0_8.index t (3 : Fin 4) = 0 :=
  (by decide +kernel : ∀ t : Fin grid0.N, _)
/-- Where window 8's block lies in its array. -/
theorem emb8 (t : Fin cfg0.N) (b : Fin 8) (i : Fin 64) (s : Fin 325) :
    ((cfg0.win 8).blk t).view.emb (ix4 b (0 : Fin 1) i s : S8x1x64x325.Idx) = (ix4 (img t b) (head t) i s : S48x12x64x325.Idx) := by
  obtain ⟨e0, e1, e2, e3⟩ := idx8 t
  funext a; apply Fin.ext
  match a with
  | ⟨0, _⟩ => show win0_8.index t (0 : Fin 4) * 8 + 1 * b.val = 8 * (t.val % 6) + b.val; omega
  | ⟨1, _⟩ => show win0_8.index t (1 : Fin 4) * 1 + 1 * 0 = t.val / 6; omega
  | ⟨2, _⟩ => show win0_8.index t (2 : Fin 4) * 64 + 1 * i.val = i.val; omega
  | ⟨3, _⟩ => show win0_8.index t (3 : Fin 4) * 325 + 1 * s.val = s.val; omega

/-- The block index of window 9 at each point. -/
theorem idx9 : ∀ t : Fin cfg0.N, win0_9.index t (0 : Fin 4) = t.val % 6 ∧ win0_9.index t (1 : Fin 4) = t.val / 6
    ∧ win0_9.index t (2 : Fin 4) = 0 ∧ win0_9.index t (3 : Fin 4) = 0 :=
  (by decide +kernel : ∀ t : Fin grid0.N, _)
/-- Where window 9's block lies in its array. -/
theorem emb9 (t : Fin cfg0.N) (b : Fin 8) (i : Fin 64) (s : Fin 325) :
    ((cfg0.win 9).blk t).view.emb (ix4 b (0 : Fin 1) i s : S8x1x64x325.Idx) = (ix4 (img t b) (head t) i s : S48x12x64x325.Idx) := by
  obtain ⟨e0, e1, e2, e3⟩ := idx9 t
  funext a; apply Fin.ext
  match a with
  | ⟨0, _⟩ => show win0_9.index t (0 : Fin 4) * 8 + 1 * b.val = 8 * (t.val % 6) + b.val; omega
  | ⟨1, _⟩ => show win0_9.index t (1 : Fin 4) * 1 + 1 * 0 = t.val / 6; omega
  | ⟨2, _⟩ => show win0_9.index t (2 : Fin 4) * 64 + 1 * i.val = i.val; omega
  | ⟨3, _⟩ => show win0_9.index t (3 : Fin 4) * 325 + 1 * s.val = s.val; omega

/-- The block index of window 10 at each point. -/
theorem idx10 : ∀ t : Fin cfg0.N, win0_10.index t (0 : Fin 4) = t.val % 6 ∧ win0_10.index t (1 : Fin 4) = t.val / 6
    ∧ win0_10.index t (2 : Fin 4) = 0 ∧ win0_10.index t (3 : Fin 4) = 0 :=
  (by decide +kernel : ∀ t : Fin grid0.N, _)
/-- Where window 10's block lies in its array. -/
theorem emb10 (t : Fin cfg0.N) (b : Fin 8) (i : Fin 64) (s : Fin 325) :
    ((cfg0.win 10).blk t).view.emb (ix4 b (0 : Fin 1) i s : S8x1x64x325.Idx) = (ix4 (img t b) (head t) i s : S48x12x64x325.Idx) := by
  obtain ⟨e0, e1, e2, e3⟩ := idx10 t
  funext a; apply Fin.ext
  match a with
  | ⟨0, _⟩ => show win0_10.index t (0 : Fin 4) * 8 + 1 * b.val = 8 * (t.val % 6) + b.val; omega
  | ⟨1, _⟩ => show win0_10.index t (1 : Fin 4) * 1 + 1 * 0 = t.val / 6; omega
  | ⟨2, _⟩ => show win0_10.index t (2 : Fin 4) * 64 + 1 * i.val = i.val; omega
  | ⟨3, _⟩ => show win0_10.index t (3 : Fin 4) * 325 + 1 * s.val = s.val; omega

/-- The block index of window 11 at each point. -/
theorem idx11 : ∀ t : Fin cfg0.N, win0_11.index t (0 : Fin 4) = t.val % 6 ∧ win0_11.index t (1 : Fin 4) = t.val / 6
    ∧ win0_11.index t (2 : Fin 4) = 0 ∧ win0_11.index t (3 : Fin 4) = 0 :=
  (by decide +kernel : ∀ t : Fin grid0.N, _)
/-- Where window 11's block lies in its array. -/
theorem emb11 (t : Fin cfg0.N) (b : Fin 8) (i : Fin 64) (s : Fin 325) :
    ((cfg0.win 11).blk t).view.emb (ix4 b (0 : Fin 1) i s : S8x1x64x325.Idx) = (ix4 (img t b) (head t) i s : S48x12x64x325.Idx) := by
  obtain ⟨e0, e1, e2, e3⟩ := idx11 t
  funext a; apply Fin.ext
  match a with
  | ⟨0, _⟩ => show win0_11.index t (0 : Fin 4) * 8 + 1 * b.val = 8 * (t.val % 6) + b.val; omega
  | ⟨1, _⟩ => show win0_11.index t (1 : Fin 4) * 1 + 1 * 0 = t.val / 6; omega
  | ⟨2, _⟩ => show win0_11.index t (2 : Fin 4) * 64 + 1 * i.val = i.val; omega
  | ⟨3, _⟩ => show win0_11.index t (3 : Fin 4) * 325 + 1 * s.val = s.val; omega

/-- Window 1's block: argument `main_arg0`. -/
theorem iblk1_apply (c : Dev nD) (t : Fin cfg0.N) (b : Fin 8) (i : Fin 64) (s : Fin 325) :
    (iblk m c 1 t : Vec F S8x1x64x325 .bf16) (ix4 b (0 : Fin 1) i s)
      = (m ((c : Thread nD τ).loc main_arg0) : Vec F S48x325x12x64 .bf16) (ix4 (img t b) s (head t) i) := by
  show V m c main_v2 (((cfg0.win 1).blk t).view.emb _) = _
  rw [emb1, V_main_v2]
  pointwise []

/-- Window 2's block: argument `main_arg1`. -/
theorem iblk2_apply (c : Dev nD) (t : Fin cfg0.N) (b : Fin 8) (i : Fin 64) (s : Fin 325) :
    (iblk m c 2 t : Vec F S8x1x64x325 .bf16) (ix4 b (0 : Fin 1) i s)
      = (m ((c : Thread nD τ).loc main_arg1) : Vec F S48x325x12x64 .bf16) (ix4 (img t b) s (head t) i) := by
  show V m c main_v3 (((cfg0.win 2).blk t).view.emb _) = _
  rw [emb2, V_main_v3]
  pointwise []

/-- Window 6's block: argument `main_arg4`. -/
theorem iblk6_apply (c : Dev nD) (t : Fin cfg0.N) (b : Fin 8) (i : Fin 64) (s : Fin 325) :
    (iblk m c 6 t : Vec F S8x1x64x325 .fp8e4m3) (ix4 b (0 : Fin 1) i s)
      = (m ((c : Thread nD τ).loc main_arg4) : Vec F S48x325x12x64 .fp8e4m3) (ix4 (img t b) s (head t) i) := by
  show V m c main_v4 (((cfg0.win 6).blk t).view.emb _) = _
  rw [emb6, V_main_v4]
  pointwise []

/-- Window 8's block: argument `main_arg6`. -/
theorem iblk8_apply (c : Dev nD) (t : Fin cfg0.N) (b : Fin 8) (i : Fin 64) (s : Fin 325) :
    (iblk m c 8 t : Vec F S8x1x64x325 .bf16) (ix4 b (0 : Fin 1) i s)
      = (m ((c : Thread nD τ).loc main_arg6) : Vec F S48x325x12x64 .bf16) (ix4 (img t b) s (head t) i) := by
  show V m c main_v5 (((cfg0.win 8).blk t).view.emb _) = _
  rw [emb8, V_main_v5]
  pointwise []

/-- The head's scale. -/
theorem scale_apply (c : Dev nD) (t : Fin cfg0.N) :
    scale (grid0.coords t) (iblk m c 0 t : Vec F S12 .f32) = (m ((c : Thread nD τ).loc main_arg3) : Vec F S12 .f32) (ix1 (head t)) := by
  unfold scale
  show V m c main_arg3 (((cfg0.win 0).blk t).view.emb _) = _
  rw [V_main_arg3]
  congr 1
  funext a; apply Fin.ext
  have e0 : win0_0.index t (0 : Fin 1) = 0 := (by decide +kernel : ∀ t : Fin grid0.N, win0_0.index t (0 : Fin 1) = 0) t
  have e1 := first_coord t
  match a with
  | ⟨0, _⟩ =>
    show win0_0.index t (0 : Fin 1) * 12 + 1 * (k0_off1 (grid0.coords t) 0 + 1 * 0) = t.val / 6
    rw [k0_off1_eq]
    show win0_0.index t (0 : Fin 1) * 12 + 1 * ((grid0.coords t 0).val + 1 * 0) = t.val / 6
    omega

/-- The block index of window 7 at each point. -/
theorem idx7 : ∀ t : Fin cfg0.N, win0_7.index t (0 : Fin 3) = t.val / 6 ∧ win0_7.index t (1 : Fin 3) = t.val % 6
    ∧ win0_7.index t (2 : Fin 3) = 0 :=
  (by decide +kernel : ∀ t : Fin grid0.N, _)
/-- Window 7's block: argument `main_arg5`. -/
theorem iblk7_apply (c : Dev nD) (t : Fin cfg0.N) (b : Fin 8) (i : Fin 64) :
    (iblk m c 7 t : Vec F S1x8x64 .f32) (ix3 (0 : Fin 1) b i)
      = (m ((c : Thread nD τ).loc main_arg5) : Vec F S48x12x64 .f32) (ix3 (img t b) (head t) i) := by
  show V m c main_v1 (((cfg0.win 7).blk t).view.emb _) = _
  have e : ((cfg0.win 7).blk t).view.emb (ix3 (0 : Fin 1) b i : S1x8x64.Idx) = (ix3 (head t) (img t b) i : S12x48x64.Idx) := by
    obtain ⟨e0, e1, e2⟩ := idx7 t
    funext a; apply Fin.ext
    match a with
    | ⟨0, _⟩ => show win0_7.index t (0 : Fin 3) * 1 + 1 * 0 = t.val / 6; omega
    | ⟨1, _⟩ => show win0_7.index t (1 : Fin 3) * 8 + 1 * b.val = 8 * (t.val % 6) + b.val; omega
    | ⟨2, _⟩ => show win0_7.index t (2 : Fin 3) * 64 + 1 * i.val = i.val; omega
  rw [e, V_main_v1]
  pointwise []

/-- The block index of window 3 at each point. -/
theorem idx3 : ∀ t : Fin cfg0.N, win0_3.index t (0 : Fin 4) = t.val / 6 ∧ win0_3.index t (1 : Fin 4) = 0
    ∧ win0_3.index t (2 : Fin 4) = t.val % 6 ∧ win0_3.index t (3 : Fin 4) = 0 :=
  (by decide +kernel : ∀ t : Fin grid0.N, _)
/-- Window 3's tile on the sequence: argument `main_arg2`. -/
theorem tile3_apply (c : Dev nD) (t : Fin cfg0.N) (b : Fin 8) (r : Fin 336) (l : Fin 128) (hr : r.val < 325) :
    (tile3 m c t : Vec F S1x336x8x128 .i8) (ix4 (0 : Fin 1) r b l)
      = (m ((c : Thread nD τ).loc main_arg2) : Vec F S48x12x325x325 .i8) (ix4 (img t b) (head t) ⟨r.val, hr⟩ ⟨l.val, by omega⟩) := by
  unfold tile3 Window.fill
  rw [dif_pos (moved3 t (ix4 (0 : Fin 1) r b l) hr)]
  show V m c main_v0 (((cfg0.win 3).blk t).view.emb _) = _
  have e : ∀ z, (z 0).val = 0 → (z 1).val = r.val → (z 2).val = b.val → (z 3).val = l.val →
      ((cfg0.win 3).blk t).view.emb z = (ix4 (head t) ⟨r.val, hr⟩ (img t b) ⟨l.val, by omega⟩ : S12x325x48x325.Idx) := by
    intro z h0 h1 h2 h3
    obtain ⟨e0, e1, e2, e3⟩ := idx3 t
    funext a; apply Fin.ext
    match a with
    | ⟨0, _⟩ => show win0_3.index t (0 : Fin 4) * 1 + 1 * (z 0).val = t.val / 6; omega
    | ⟨1, _⟩ => show win0_3.index t (1 : Fin 4) * 336 + 1 * (z 1).val = r.val; omega
    | ⟨2, _⟩ => show win0_3.index t (2 : Fin 4) * 8 + 1 * (z 2).val = 8 * (t.val % 6) + b.val; omega
    | ⟨3, _⟩ => show win0_3.index t (3 : Fin 4) * 128 + 1 * (z 3).val = l.val; omega
  rw [e _ rfl rfl rfl rfl, V_main_v0]
  pointwise []

/-- The block index of window 4 at each point. -/
theorem idx4 : ∀ t : Fin cfg0.N, win0_4.index t (0 : Fin 4) = t.val / 6 ∧ win0_4.index t (1 : Fin 4) = 0
    ∧ win0_4.index t (2 : Fin 4) = t.val % 6 ∧ win0_4.index t (3 : Fin 4) = 1 :=
  (by decide +kernel : ∀ t : Fin grid0.N, _)
/-- Window 4's tile on the sequence: argument `main_arg2`. -/
theorem tile4_apply (c : Dev nD) (t : Fin cfg0.N) (b : Fin 8) (r : Fin 336) (l : Fin 128) (hr : r.val < 325) :
    (tile4 m c t : Vec F S1x336x8x128 .i8) (ix4 (0 : Fin 1) r b l)
      = (m ((c : Thread nD τ).loc main_arg2) : Vec F S48x12x325x325 .i8) (ix4 (img t b) (head t) ⟨r.val, hr⟩ ⟨128 + l.val, by omega⟩) := by
  unfold tile4 Window.fill
  rw [dif_pos (moved4 t (ix4 (0 : Fin 1) r b l) hr)]
  show V m c main_v0 (((cfg0.win 4).blk t).view.emb _) = _
  have e : ∀ z, (z 0).val = 0 → (z 1).val = r.val → (z 2).val = b.val → (z 3).val = l.val →
      ((cfg0.win 4).blk t).view.emb z = (ix4 (head t) ⟨r.val, hr⟩ (img t b) ⟨128 + l.val, by omega⟩ : S12x325x48x325.Idx) := by
    intro z h0 h1 h2 h3
    obtain ⟨e0, e1, e2, e3⟩ := idx4 t
    funext a; apply Fin.ext
    match a with
    | ⟨0, _⟩ => show win0_4.index t (0 : Fin 4) * 1 + 1 * (z 0).val = t.val / 6; omega
    | ⟨1, _⟩ => show win0_4.index t (1 : Fin 4) * 336 + 1 * (z 1).val = r.val; omega
    | ⟨2, _⟩ => show win0_4.index t (2 : Fin 4) * 8 + 1 * (z 2).val = 8 * (t.val % 6) + b.val; omega
    | ⟨3, _⟩ => show win0_4.index t (3 : Fin 4) * 128 + 1 * (z 3).val = 128 + l.val; omega
  rw [e _ rfl rfl rfl rfl, V_main_v0]
  pointwise []

/-- The block index of window 5 at each point. -/
theorem idx5 : ∀ t : Fin cfg0.N, win0_5.index t (0 : Fin 4) = t.val / 6 ∧ win0_5.index t (1 : Fin 4) = 0
    ∧ win0_5.index t (2 : Fin 4) = t.val % 6 ∧ win0_5.index t (3 : Fin 4) = 2 :=
  (by decide +kernel : ∀ t : Fin grid0.N, _)
/-- Window 5's tile on the sequence: argument `main_arg2`. -/
theorem tile5_apply (c : Dev nD) (t : Fin cfg0.N) (b : Fin 8) (r : Fin 336) (l : Fin 128) (hr : r.val < 325) (hl : l.val < 69) :
    (tile5 m c t : Vec F S1x336x8x128 .i8) (ix4 (0 : Fin 1) r b l)
      = (m ((c : Thread nD τ).loc main_arg2) : Vec F S48x12x325x325 .i8) (ix4 (img t b) (head t) ⟨r.val, hr⟩ ⟨256 + l.val, by omega⟩) := by
  unfold tile5 Window.fill
  rw [dif_pos (moved5 t (ix4 (0 : Fin 1) r b l) hr hl)]
  show V m c main_v0 (((cfg0.win 5).blk t).view.emb _) = _
  have e : ∀ z, (z 0).val = 0 → (z 1).val = r.val → (z 2).val = b.val → (z 3).val = l.val →
      ((cfg0.win 5).blk t).view.emb z = (ix4 (head t) ⟨r.val, hr⟩ (img t b) ⟨256 + l.val, by omega⟩ : S12x325x48x325.Idx) := by
    intro z h0 h1 h2 h3
    obtain ⟨e0, e1, e2, e3⟩ := idx5 t
    funext a; apply Fin.ext
    match a with
    | ⟨0, _⟩ => show win0_5.index t (0 : Fin 4) * 1 + 1 * (z 0).val = t.val / 6; omega
    | ⟨1, _⟩ => show win0_5.index t (1 : Fin 4) * 336 + 1 * (z 1).val = r.val; omega
    | ⟨2, _⟩ => show win0_5.index t (2 : Fin 4) * 8 + 1 * (z 2).val = 8 * (t.val % 6) + b.val; omega
    | ⟨3, _⟩ => show win0_5.index t (3 : Fin 4) * 128 + 1 * (z 3).val = 256 + l.val; omega
  rw [e _ rfl rfl rfl rfl, V_main_v0]
  pointwise []

end Cert.KernelIdeal.Gen

end
-- ==== Proof.Spec.lean ====
/- THE GRADIENTS OF ONE HEAD OF ONE IMAGE, over the extended reals: 325 positions, 64 channels, `p` the probabilities,
   `n` their codes, `s` the head's scale. Both programs' results are shown to be these. -/
module

public import Idealize.ShloMosaic.PureOps.Ideal.Laws

@[expose] public section

noncomputable section

namespace Cert.Attn

open Idealize.ShloMosaic

/-- A matrix over the extended reals. -/
abbrev Mat (m n : Nat) : Type := Fin m → Fin n → EReal

/-- The gradient of the probabilities: row of the output's gradient times row of the values. -/
def dp (d v : Mat 325 64) : Mat 325 325 := fun r l => ∑ k, d r k * v l k

/-- The gradient of the scores: each row of `y` less its sum against `p`, times `p`. -/
def ds (p y : Mat 325 325) : Mat 325 325 := fun r l => p r l * (y r l - ∑ j, y r j * p r j)

/-- One over the square root of the number of channels. -/
def eighth : EReal := Ideal.ofBits .f32 0x3E000000#32

/-- The gradient of the queries. -/
def dq (k d v : Mat 325 64) (p : Mat 325 325) : Mat 325 64 := fun r i => (∑ l, k l i * ds p (dp d v) r l) * eighth

/-- The gradient of the keys. -/
def dk (q d v : Mat 325 64) (p : Mat 325 325) : Mat 325 64 := fun l i => (∑ r, q r i * ds p (dp d v) r l) * eighth

/-- The gradient of the values. -/
def dv (d : Mat 325 64) (n : Mat 325 325) (s : EReal) : Mat 325 64 := fun l i => (∑ r, d r i * n r l) * s

/-- A sum whose later terms are zero is the sum of the earlier ones. -/
theorem sum_castLE {n m : Nat} (h : n ≤ m) (f : Fin m → EReal) (hz : ∀ i : Fin m, n ≤ i.val → f i = 0) :
    ∑ i, f i = ∑ i : Fin n, f (Fin.castLE h i) := by
  obtain ⟨k, rfl⟩ := Nat.exists_eq_add_of_le h
  rw [Fin.sum_univ_add]
  rw [Finset.sum_eq_zero (s := Finset.univ) (f := fun i : Fin k => f (Fin.natAdd n i)) (fun i _ => hz _ (by simp))]
  rw [add_zero]
  rfl

/-- A sum over 384 is the sum over 128 of the three terms 128 apart. -/
theorem sum_three (f : Fin 384 → EReal) :
    ∑ l : Fin 128, (f ⟨l.val, by omega⟩ + f ⟨128 + l.val, by omega⟩ + f ⟨256 + l.val, by omega⟩) = ∑ i, f i := by
  rw [Finset.sum_add_distrib, Finset.sum_add_distrib]
  have h := Fin.sum_univ_add (a := 256) (b := 128) f
  have h' := Fin.sum_univ_add (a := 128) (b := 128) (fun i : Fin 256 => f (Fin.castAdd 128 i))
  rw [h, h']
  rfl

/-! ## All heads of all images

`q`, `k`, `d` by image, position, head and channel; `v` the codes of the values the same way and `vs` their scales by image,
head and channel; `n` the codes of the probabilities by image, head, row and column; `ps` the scales by head. -/

/-- A signed byte as a number. -/
def byte (x : BitVec 8) : EReal := ((x.toInt : ℝ) : EReal)

/-- An argument by image, position, head and channel. -/
abbrev Arr : Type := Fin 48 → Fin 325 → Fin 12 → Fin 64 → EReal

/-- The gradient of the queries at an index. -/
def resDq (k d v : Arr) (n : Fin 48 → Fin 12 → Fin 325 → Fin 325 → BitVec 8) (ps : Fin 12 → EReal) (vs : Fin 48 → Fin 12 → Fin 64 → EReal)
    (b : Fin 48) (s : Fin 325) (h : Fin 12) (i : Fin 64) : EReal :=
  dq (fun l i => k b l h i) (fun r i => d b r h i) (fun l i => v b l h i * vs b h i) (fun r l => byte (n b h r l) * ps h) s i

/-- The gradient of the keys at an index. -/
def resDk (q d v : Arr) (n : Fin 48 → Fin 12 → Fin 325 → Fin 325 → BitVec 8) (ps : Fin 12 → EReal) (vs : Fin 48 → Fin 12 → Fin 64 → EReal)
    (b : Fin 48) (s : Fin 325) (h : Fin 12) (i : Fin 64) : EReal :=
  dk (fun l i => q b l h i) (fun r i => d b r h i) (fun l i => v b l h i * vs b h i) (fun r l => byte (n b h r l) * ps h) s i

/-- The gradient of the values at an index. -/
def resDv (d : Arr) (n : Fin 48 → Fin 12 → Fin 325 → Fin 325 → BitVec 8) (ps : Fin 12 → EReal)
    (b : Fin 48) (s : Fin 325) (h : Fin 12) (i : Fin 64) : EReal :=
  dv (fun r i => d b r h i) (fun r l => byte (n b h r l)) (ps h) s i

end Cert.Attn

end
-- ==== Proof.MathKI.lean ====
/- ONE IMAGE'S BLOCKS ARE ITS GRADIENTS, over the extended reals: the padding adds zeros to every sum, the row sums over the
   three tiles are the row sums over the sequence, and the roundings are the identity. -/
module

public import proofs.«01_k».proof.Proof.ImgKI
public import proofs.«01_k».proof.Proof.Spec
public import Idealize.ShloMosaic.Lib.Pointwise

@[expose] public section

noncomputable section

namespace Cert.KernelIdeal.Img

open Cert.KernelIdeal Cert.KernelIdeal.Gen Idealize.ShloMosaic Idealize.SL.Sem

/-- A padded operand at an index. -/
theorem pad_apply (x : FVec Ideal S64x325 .bf16) (k : Fin 64) (l : Fin 384) :
    (pad x (ix2 k l) : EReal) = if h : l.val < 325 then x (ix2 k ⟨l.val, h⟩) else 0 := by
  pointwise [pad]

/-- A loaded block as a matrix, at an index. -/
theorem mat_apply (x : FVec Ideal S1x1x64x325 .bf16) (k : Fin 64) (l : Fin 325) :
    (mat x (ix2 k l) : EReal) = x (ix4 0 0 k l) := by
  pointwise [mat]

/-- The values at an index: code times scale. -/
theorem vals_apply (v : Vec Ideal S1x1x64x325 .fp8e4m3) (vs : Vec Ideal S1x1x64 .f32) (k : Fin 64) (l : Fin 325) :
    (vals v vs (ix2 k l) : EReal) = v (ix4 0 0 k l) * vs (ix3 0 0 k) := by
  pointwise [vals, mat]

/-- The gradient of the probabilities at an index of the padded rows and columns. -/
theorem dp_apply (d : Vec Ideal S1x1x64x325 .bf16) (v : Vec Ideal S1x1x64x325 .fp8e4m3) (vs : Vec Ideal S1x1x64 .f32) (r : Fin 336) (l : Fin 384) :
    (dp d v vs (ix2 r l) : EReal) = ∑ k : Fin 64, pad (mat (φ := .bf16) d) (ix2 k ⟨r.val, by omega⟩) * pad (vals v vs) (ix2 k l) := by
  pointwise [dp]

/-- At an index of the sequence it is the gradient of the probabilities. -/
theorem dp_inner (d : Vec Ideal S1x1x64x325 .bf16) (v : Vec Ideal S1x1x64x325 .fp8e4m3) (vs : Vec Ideal S1x1x64 .f32) (r : Fin 336) (l : Fin 384)
    (hr : r.val < 325) (hl : l.val < 325) :
    (dp d v vs (ix2 r l) : EReal)
      = Attn.dp (fun r k => d (ix4 0 0 k r)) (fun l k => (v (ix4 0 0 k l) * vs (ix3 0 0 k) : EReal)) ⟨r.val, hr⟩ ⟨l.val, hl⟩ := by
  rw [dp_apply]
  unfold Attn.dp
  refine Finset.sum_congr rfl fun k _ => ?_
  rw [pad_apply, pad_apply, dif_pos hr, dif_pos hl, mat_apply, vals_apply]

/-- Three tiles side by side, each a tile of one matrix, are that matrix. -/
theorem cat_apply (a b c : FVec Ideal S336x128 .bf16) (G : Fin 336 → Fin 384 → EReal)
    (ha : ∀ (r : Fin 336) (l : Fin 128), (a (ix2 r l) : EReal) = G r ⟨l.val, by omega⟩)
    (hb : ∀ (r : Fin 336) (l : Fin 128), (b (ix2 r l) : EReal) = G r ⟨128 + l.val, by omega⟩)
    (hc : ∀ (r : Fin 336) (l : Fin 128), (c (ix2 r l) : EReal) = G r ⟨256 + l.val, by omega⟩) (r : Fin 336) (l : Fin 384) :
    (cat a b c (ix2 r l) : EReal) = G r l := by
  have h : (cat a b c (ix2 r l) : EReal) = if h : l.val < 128 then a (ix2 r ⟨l.val, h⟩)
      else if h : l.val - 128 < 128 then b (ix2 r ⟨l.val - 128, h⟩) else c (ix2 r ⟨l.val - 128 - 128, by omega⟩) := by
    pointwise [cat]
  rw [h]
  split
  · exact ha _ _
  · split
    · rw [hb]; congr 1; exact Fin.ext (by show 128 + (l.val - 128) = l.val; omega)
    · rw [hc]; congr 1; exact Fin.ext (by show 256 + (l.val - 128 - 128) = l.val; omega)

/-- A row's sum over the three tiles is its sum over the 384 columns. -/
theorem rowSum_apply (x : FVec Ideal S336x384 .f32) (p0 p1 p2 : FVec Ideal S336x128 .f32) (G : Fin 336 → Fin 384 → EReal)
    (h0 : ∀ (r : Fin 336) (l : Fin 128), (p0 (ix2 r l) : EReal) = G r ⟨l.val, by omega⟩)
    (h1 : ∀ (r : Fin 336) (l : Fin 128), (p1 (ix2 r l) : EReal) = G r ⟨128 + l.val, by omega⟩)
    (h2 : ∀ (r : Fin 336) (l : Fin 128), (p2 (ix2 r l) : EReal) = G r ⟨256 + l.val, by omega⟩) (r : Fin 336) :
    (rowSum x p0 p1 p2 (ix2 r 0) : EReal) = ∑ l : Fin 384, x (ix2 r l) * G r l := by
  have h : (rowSum x p0 p1 p2 (ix2 r 0) : EReal)
      = ∑ l : Fin 128, (x (ix2 r ⟨l.val, by omega⟩) * p0 (ix2 r l) + x (ix2 r ⟨128 + l.val, by omega⟩) * p1 (ix2 r l)
        + x (ix2 r ⟨256 + l.val, by omega⟩) * p2 (ix2 r l)) := by
    pointwise [rowSum, dp0, dp1, dp2]
  rw [h, ← Attn.sum_three]
  refine Finset.sum_congr rfl fun l _ => ?_
  rw [h0, h1, h2]

/-- A tile of the gradient of the scores at an index. -/
theorem dsTile_apply (p y : FVec Ideal S336x128 .f32) (s : FVec Ideal S336x1 .f32) (r : Fin 336) (l : Fin 128) :
    (dsTile p y s (ix2 r l) : EReal) = p (ix2 r l) * (y (ix2 r l) - s (ix2 r 0)) := by
  pointwise [dsTile]

/-- The tiles of a gradient of the probabilities. -/
theorem dp0_apply (x : FVec Ideal S336x384 .f32) (r : Fin 336) (l : Fin 128) : (dp0 x (ix2 r l) : EReal) = x (ix2 r ⟨l.val, by omega⟩) := by
  pointwise [dp0]
/-- The middle tile at an index. -/
theorem dp1_apply (x : FVec Ideal S336x384 .f32) (r : Fin 336) (l : Fin 128) : (dp1 x (ix2 r l) : EReal) = x (ix2 r ⟨128 + l.val, by omega⟩) := by
  pointwise [dp1]
/-- The last tile at an index. -/
theorem dp2_apply (x : FVec Ideal S336x384 .f32) (r : Fin 336) (l : Fin 128) : (dp2 x (ix2 r l) : EReal) = x (ix2 r ⟨256 + l.val, by omega⟩) := by
  pointwise [dp2]

/-- A code as a number. -/
abbrev num (c : BitVec 32) : EReal := FloatOps.sitofp (F := Ideal) (w := 32) .f32 c

/-- The word zero is the number zero. -/
theorem num_zero : num 0#32 = 0 := by
  show (((0#32 : BitVec 32).toInt : ℝ) : EReal) = 0
  simp

/-- A probability is its code times the scale; -/
theorem prob_apply (ps : Elt Ideal .f32) (c : IVec S336x128 32) (r : Fin 336) (l : Fin 128) :
    (prob (F := Ideal) ps c (ix2 r l) : EReal) = num (c (ix2 r l)) * ps := by
  pointwise [prob]

/-- a code at the products' width is its number. -/
theorem codeB_apply (c : IVec S336x128 32) (r : Fin 336) (l : Fin 128) :
    (codeB (F := Ideal) c (ix2 r l) : EReal) = num (c (ix2 r l)) := by
  pointwise [codeB]

/-- The three tiles of codes are those of the matrix `C`, which is zero past the sequence. -/
structure Tiles (c0 c1 c2 : IVec S336x128 32) (C : Fin 336 → Fin 384 → BitVec 32) : Prop where
  h0 : ∀ (r : Fin 336) (l : Fin 128), c0 (ix2 r l) = C r ⟨l.val, by omega⟩
  h1 : ∀ (r : Fin 336) (l : Fin 128), c1 (ix2 r l) = C r ⟨128 + l.val, by omega⟩
  h2 : ∀ (r : Fin 336) (l : Fin 128), c2 (ix2 r l) = C r ⟨256 + l.val, by omega⟩
  row : ∀ (r : Fin 336) (l : Fin 384), 325 ≤ r.val → C r l = 0#32
  col : ∀ (r : Fin 336) (l : Fin 384), 325 ≤ l.val → C r l = 0#32

variable {c0 c1 c2 : IVec S336x128 32} {C : Fin 336 → Fin 384 → BitVec 32} (hC : Tiles c0 c1 c2 C)

/-- The codes' numbers on the sequence. -/
def nums (C : Fin 336 → Fin 384 → BitVec 32) : Attn.Mat 325 325 := fun r l => num (C ⟨r.val, by omega⟩ ⟨l.val, by omega⟩)
/-- The probabilities on the sequence. -/
def probs (C : Fin 336 → Fin 384 → BitVec 32) (ps : EReal) : Attn.Mat 325 325 := fun r l => nums C r l * ps

include hC

/-- The gradient of the scores at an index of the padded rows and columns. -/
theorem ds_apply (ps : Elt Ideal .f32) (x : FVec Ideal S336x384 .f32) (r : Fin 336) (l : Fin 384) :
    (ds (F := Ideal) ps c0 c1 c2 x (ix2 r l) : EReal)
      = num (C r l) * ps * (x (ix2 r l) - ∑ j : Fin 384, x (ix2 r j) * (num (C r j) * ps)) := by
  have hs : ∀ r, (rowSum x (prob (F := Ideal) ps c0) (prob ps c1) (prob ps c2) (ix2 r 0) : EReal)
      = ∑ j : Fin 384, x (ix2 r j) * (num (C r j) * ps) :=
    rowSum_apply x _ _ _ (fun r l => num (C r l) * ps) (fun r l => by rw [prob_apply, hC.h0]) (fun r l => by rw [prob_apply, hC.h1])
      (fun r l => by rw [prob_apply, hC.h2])
  unfold ds
  exact cat_apply _ _ _ (fun r l => num (C r l) * ps * (x (ix2 r l) - ∑ j : Fin 384, x (ix2 r j) * (num (C r j) * ps)))
    (fun r l => by rw [dsTile_apply, prob_apply, hC.h0, dp0_apply, hs]) (fun r l => by rw [dsTile_apply, prob_apply, hC.h1, dp1_apply, hs])
    (fun r l => by rw [dsTile_apply, prob_apply, hC.h2, dp2_apply, hs]) r l

/-- It is zero past the sequence's rows -/
theorem ds_row (ps : Elt Ideal .f32) (x : FVec Ideal S336x384 .f32) (r : Fin 336) (l : Fin 384) (h : 325 ≤ r.val) :
    (ds (F := Ideal) ps c0 c1 c2 x (ix2 r l) : EReal) = 0 := by
  rw [ds_apply hC, hC.row r l h, num_zero, zero_mul, zero_mul]

/-- and columns, -/
theorem ds_col (ps : Elt Ideal .f32) (x : FVec Ideal S336x384 .f32) (r : Fin 336) (l : Fin 384) (h : 325 ≤ l.val) :
    (ds (F := Ideal) ps c0 c1 c2 x (ix2 r l) : EReal) = 0 := by
  rw [ds_apply hC, hC.col r l h, num_zero, zero_mul, zero_mul]

/-- and on the sequence the gradient of the scores. -/
theorem ds_inner (ps : Elt Ideal .f32) (d : Vec Ideal S1x1x64x325 .bf16) (v : Vec Ideal S1x1x64x325 .fp8e4m3) (vs : Vec Ideal S1x1x64 .f32)
    (r l : Fin 325) :
    (ds (F := Ideal) ps c0 c1 c2 (dp d v vs) (ix2 (⟨r.val, by omega⟩ : Fin 336) (⟨l.val, by omega⟩ : Fin 384)) : EReal)
      = Attn.ds (probs C ps) (Attn.dp (fun r k => d (ix4 0 0 k r)) (fun l k => (v (ix4 0 0 k l) * vs (ix3 0 0 k) : EReal))) r l := by
  rw [ds_apply hC, Attn.sum_castLE (n := 325) (by omega) _ (fun i hi => by rw [hC.col _ i hi, num_zero, zero_mul, mul_zero]),
    dp_inner d v vs ⟨r.val, by omega⟩ ⟨l.val, by omega⟩ r.isLt l.isLt]
  unfold Attn.ds probs nums
  congr 2
  refine Finset.sum_congr rfl fun j _ => ?_
  rw [dp_inner d v vs ⟨r.val, by omega⟩ (Fin.castLE _ j) r.isLt j.isLt]
  rfl

/-- One image's block of the gradient of the queries. -/
theorem dq_apply (ps : Elt Ideal .f32) (k d : Vec Ideal S1x1x64x325 .bf16) (v : Vec Ideal S1x1x64x325 .fp8e4m3) (vs : Vec Ideal S1x1x64 .f32)
    (i : Fin 64) (j : Fin 325) :
    (dq ps c0 c1 c2 k d v vs (ix4 0 0 i j) : EReal)
      = Attn.dq (fun l k' => k (ix4 0 0 k' l)) (fun r k => d (ix4 0 0 k r)) (fun l k => (v (ix4 0 0 k l) * vs (ix3 0 0 k) : EReal)) (probs C ps) j i := by
  have h : (dq ps c0 c1 c2 k d v vs (ix4 0 0 i j) : EReal)
      = (∑ l : Fin 384, (pad (F := Ideal) (mat (φ := .bf16) k) (ix2 i l) : EReal) * ds (F := Ideal) ps c0 c1 c2 (dp d v vs) (ix2 (⟨j.val, by omega⟩ : Fin 336) l)) * Attn.eighth := by
    pointwise [dq, store, Attn.eighth]
  rw [h, Attn.sum_castLE (n := 325) (by omega) _ (fun l hl => by rw [ds_col hC _ _ _ l hl, mul_zero])]
  unfold Attn.dq
  congr 1
  refine Finset.sum_congr rfl fun l _ => ?_
  rw [pad_apply, dif_pos (show (Fin.castLE _ l : Fin 384).val < 325 from l.isLt), mat_apply]
  exact congrArg _ (ds_inner hC ps d v vs j l)

/-- One image's block of the gradient of the keys. -/
theorem dk_apply (ps : Elt Ideal .f32) (q d : Vec Ideal S1x1x64x325 .bf16) (v : Vec Ideal S1x1x64x325 .fp8e4m3) (vs : Vec Ideal S1x1x64 .f32)
    (i : Fin 64) (j : Fin 325) :
    (dk ps c0 c1 c2 q d v vs (ix4 0 0 i j) : EReal)
      = Attn.dk (fun l k' => q (ix4 0 0 k' l)) (fun r k => d (ix4 0 0 k r)) (fun l k => (v (ix4 0 0 k l) * vs (ix3 0 0 k) : EReal)) (probs C ps) j i := by
  have h : (dk ps c0 c1 c2 q d v vs (ix4 0 0 i j) : EReal)
      = (∑ r : Fin 336, (pad (F := Ideal) (mat (φ := .bf16) q) (ix2 i (⟨r.val, by omega⟩ : Fin 384)) : EReal) * ds (F := Ideal) ps c0 c1 c2 (dp d v vs) (ix2 r (⟨j.val, by omega⟩ : Fin 384))) * Attn.eighth := by
    pointwise [dk, store, Attn.eighth]
  rw [h, Attn.sum_castLE (n := 325) (by omega) _ (fun r hr => by rw [ds_row hC _ _ r _ hr, mul_zero])]
  unfold Attn.dk
  congr 1
  refine Finset.sum_congr rfl fun r _ => ?_
  rw [pad_apply, dif_pos (show (⟨(Fin.castLE _ r : Fin 336).val, _⟩ : Fin 384).val < 325 from r.isLt), mat_apply]
  exact congrArg _ (ds_inner hC ps d v vs r j)

/-- One image's block of the gradient of the values. -/
theorem dv_apply (ps : Elt Ideal .f32) (d : Vec Ideal S1x1x64x325 .bf16) (i : Fin 64) (j : Fin 325) :
    (dv ps c0 c1 c2 d (ix4 0 0 i j) : EReal) = Attn.dv (fun r k => d (ix4 0 0 k r)) (nums C) ps j i := by
  have h : (dv ps c0 c1 c2 d (ix4 0 0 i j) : EReal)
      = (∑ r : Fin 336, (pad (F := Ideal) (mat (φ := .bf16) d) (ix2 i (⟨r.val, by omega⟩ : Fin 384)) : EReal) * cat (F := Ideal) (codeB c0) (codeB c1) (codeB c2) (ix2 r (⟨j.val, by omega⟩ : Fin 384))) * ps := by
    pointwise [dv, store]
  have hc : ∀ r l, (cat (F := Ideal) (codeB c0) (codeB c1) (codeB c2) (ix2 r l) : EReal) = num (C r l) :=
    cat_apply _ _ _ (fun r l => num (C r l)) (fun r l => by rw [codeB_apply, hC.h0]) (fun r l => by rw [codeB_apply, hC.h1])
      (fun r l => by rw [codeB_apply, hC.h2])
  rw [h, Attn.sum_castLE (n := 325) (by omega) _ (fun r hr => by rw [hc, hC.row r _ hr, num_zero, mul_zero])]
  unfold Attn.dv
  congr 1
  refine Finset.sum_congr rfl fun r _ => ?_
  rw [pad_apply, dif_pos (show (⟨(Fin.castLE _ r : Fin 336).val, _⟩ : Fin 384).val < 325 from r.isLt), mat_apply, hc]
  rfl

end Cert.KernelIdeal.Img

end
-- ==== Proof.ValueKI.lean ====
/- THE KERNEL'S RESULTS. Every point writes its block of each output back and no two blocks meet, so an entry of an output
   array is the entry of the block of its point, which is one image's gradient; the lines after the region transpose the arrays. -/
module

public import proofs.«01_k».proof.Proof.InputsKI
public import proofs.«01_k».proof.Proof.MathKI

@[expose] public section

noncomputable section

namespace Cert.KernelIdeal.Gen

open Idealize.ShloMosaic Idealize.ShloMosaic.TcCoe Idealize.SL.Sem
open Idealize.ShloMosaic.Pipeline (Dat Window)

variable (m : (ℓ : Loc nD τ sig) → Buf (Elt Ideal) ℓ) (ρ : Dev nD → PrngReg)

/-! ## The arguments by coordinates -/

/-- The queries. -/
def aQ (c : Dev nD) : Attn.Arr := fun b s h i => (m ((c : Thread nD τ).loc main_arg0) : Vec Ideal S48x325x12x64 .bf16) (ix4 b s h i)
/-- The keys. -/
def aK (c : Dev nD) : Attn.Arr := fun b s h i => (m ((c : Thread nD τ).loc main_arg1) : Vec Ideal S48x325x12x64 .bf16) (ix4 b s h i)
/-- The codes of the probabilities. -/
def aN (c : Dev nD) : Fin 48 → Fin 12 → Fin 325 → Fin 325 → BitVec 8 :=
  fun b h r l => (m ((c : Thread nD τ).loc main_arg2) : Vec Ideal S48x12x325x325 .i8) (ix4 b h r l)
/-- The scales of the probabilities. -/
def aPs (c : Dev nD) : Fin 12 → EReal := fun h => (m ((c : Thread nD τ).loc main_arg3) : Vec Ideal S12 .f32) (ix1 h)
/-- The codes of the values. -/
def aV (c : Dev nD) : Attn.Arr := fun b s h i => (m ((c : Thread nD τ).loc main_arg4) : Vec Ideal S48x325x12x64 .fp8e4m3) (ix4 b s h i)
/-- The scales of the values. -/
def aVs (c : Dev nD) : Fin 48 → Fin 12 → Fin 64 → EReal := fun b h i => (m ((c : Thread nD τ).loc main_arg5) : Vec Ideal S48x12x64 .f32) (ix3 b h i)
/-- The gradient of the output. -/
def aD (c : Dev nD) : Attn.Arr := fun b s h i => (m ((c : Thread nD τ).loc main_arg6) : Vec Ideal S48x325x12x64 .bf16) (ix4 b s h i)

/-! ## One image of a point's block -/

/-- One image's codes, widened, zero past the sequence. -/
def codeM (c : Dev nD) (b : Fin 48) (h : Fin 12) : Fin 336 → Fin 384 → BitVec 32 := fun r l =>
  if hr : r.val < 325 ∧ l.val < 325 then BitVec.signExtend 32 (aN m c b h ⟨r.val, hr.1⟩ ⟨l.val, hr.2⟩) else 0#32

/-- The three tiles of codes of an image are its codes. -/
theorem tiles (c : Dev nD) (t : Fin cfg0.N) (b : Fin 8) :
    Img.Tiles (codes (F := Ideal) b (tile3 m c t)) (codes (F := Ideal) b (tile4 m c t)) (codesTail (F := Ideal) b (tile5 m c t)) (codeM m c (img t b) (head t)) where
  h0 r l := by
    rw [codes_apply]; unfold codeM
    by_cases hr : r.val < 325
    · rw [if_pos hr, dif_pos ⟨hr, (by show l.val < 325; omega)⟩, tile3_apply m c t b r l hr]; rfl
    · rw [if_neg hr, dif_neg (fun h => hr h.1)]
  h1 r l := by
    rw [codes_apply]; unfold codeM
    by_cases hr : r.val < 325
    · rw [if_pos hr, dif_pos ⟨hr, (by show 128 + l.val < 325; omega)⟩, tile4_apply m c t b r l hr]; rfl
    · rw [if_neg hr, dif_neg (fun h => hr h.1)]
  h2 r l := by
    rw [codesTail_apply, codes_apply]; unfold codeM
    by_cases hl : l.val < 69
    · rw [if_pos hl]
      by_cases hr : r.val < 325
      · rw [if_pos hr, dif_pos ⟨hr, (by show 256 + l.val < 325; omega)⟩, tile5_apply m c t b r l hr hl]; rfl
      · rw [if_neg hr, dif_neg (fun h => hr h.1)]
    · rw [if_neg hl, dif_neg (fun h => hl (by have : 256 + l.val < 325 := h.2; omega))]
  row r l h := by unfold codeM; rw [dif_neg (fun h' => by omega)]
  col r l h := by unfold codeM; rw [dif_neg (fun h' => by omega)]

/-- Their numbers on the sequence are the bytes'. -/
theorem nums_codeM (c : Dev nD) (b : Fin 48) (h : Fin 12) : Img.nums (codeM m c b h) = fun r l => Attn.byte (aN m c b h r l) := by
  funext r l
  unfold Img.nums codeM
  rw [dif_pos ⟨r.isLt, l.isLt⟩]
  show (((BitVec.signExtend 32 (aN m c b h r l)).toInt : ℝ) : EReal) = _
  rw [BitVec.toInt_signExtend_of_le (by omega)]
  rfl

/-- The probabilities of one image and head: its codes times the scale. -/
theorem probs_codeM (c : Dev nD) (b : Fin 48) (h : Fin 12) (ps : EReal) :
    Img.probs (codeM m c b h) ps = fun r l => Attn.byte (aN m c b h r l) * ps := by
  funext r l
  unfold Img.probs
  rw [nums_codeM]

/-- An image cut out of a block, at an index. -/
theorem sub_apply {e : EltTy} (b : Fin 8) (x : Vec Ideal S8x1x64x325 e) (i : Fin 64) (s : Fin 325) :
    sub b x (ix4 (0 : Fin 1) (0 : Fin 1) i s) = x (ix4 b (0 : Fin 1) i s) := by
  unfold sub
  exact congrArg x (eq_ix4 _)
/-- One image's scales at an index. -/
theorem subVs_apply (b : Fin 8) (x : Vec Ideal S1x8x64 .f32) (i : Fin 64) :
    subVs b x (ix3 (0 : Fin 1) (0 : Fin 1) i) = x (ix3 (0 : Fin 1) b i) := by
  unfold subVs
  exact congrArg x (eq_ix3 _)

/-- A point's block of the queries' gradient at an index. -/
theorem oblkDq_apply (c : Dev nD) (t : Fin cfg0.N) (b : Fin 8) (i : Fin 64) (s : Fin 325) :
    (oblkDq m c t (ix4 b (0 : Fin 1) i s) : EReal)
      = Attn.resDq (aK m c) (aD m c) (aV m c) (aN m c) (aPs m c) (aVs m c) (img t b) s (head t) i := by
  unfold oblkDq outDq
  show Img.dq _ (codes (F := Ideal) b (tile3 m c t)) (codes (F := Ideal) b (tile4 m c t)) (codesTail (F := Ideal) b (tile5 m c t)) (sub b _) (sub b _) (sub b _) (subVs b _) (ValueIdx.ix4 (0 : Fin 1) (0 : Fin 1) i s) = _
  rw [show (ValueIdx.ix4 (0 : Fin 1) (0 : Fin 1) i s : S1x1x64x325.Idx) = ix4 0 0 i s from eq_ix4 _, Img.dq_apply (tiles m c t b), scale_apply, probs_codeM]
  unfold Attn.resDq
  simp only [sub_apply, subVs_apply, iblk2_apply, iblk6_apply, iblk7_apply, iblk8_apply]
  rfl

/-- A point's block of the keys' gradient at an index. -/
theorem oblkDk_apply (c : Dev nD) (t : Fin cfg0.N) (b : Fin 8) (i : Fin 64) (s : Fin 325) :
    (oblkDk m c t (ix4 b (0 : Fin 1) i s) : EReal)
      = Attn.resDk (aQ m c) (aD m c) (aV m c) (aN m c) (aPs m c) (aVs m c) (img t b) s (head t) i := by
  unfold oblkDk outDk
  show Img.dk _ (codes (F := Ideal) b (tile3 m c t)) (codes (F := Ideal) b (tile4 m c t)) (codesTail (F := Ideal) b (tile5 m c t)) (sub b _) (sub b _) (sub b _) (subVs b _) (ValueIdx.ix4 (0 : Fin 1) (0 : Fin 1) i s) = _
  rw [show (ValueIdx.ix4 (0 : Fin 1) (0 : Fin 1) i s : S1x1x64x325.Idx) = ix4 0 0 i s from eq_ix4 _, Img.dk_apply (tiles m c t b), scale_apply, probs_codeM]
  unfold Attn.resDk
  simp only [sub_apply, subVs_apply, iblk1_apply, iblk6_apply, iblk7_apply, iblk8_apply]
  rfl

/-- A point's block of the values' gradient at an index. -/
theorem oblkDv_apply (c : Dev nD) (t : Fin cfg0.N) (b : Fin 8) (i : Fin 64) (s : Fin 325) :
    (oblkDv m c t (ix4 b (0 : Fin 1) i s) : EReal) = Attn.resDv (aD m c) (aN m c) (aPs m c) (img t b) s (head t) i := by
  unfold oblkDv outDv
  show Img.dv _ (codes (F := Ideal) b (tile3 m c t)) (codes (F := Ideal) b (tile4 m c t)) (codesTail (F := Ideal) b (tile5 m c t)) (sub b _) (ValueIdx.ix4 (0 : Fin 1) (0 : Fin 1) i s) = _
  rw [show (ValueIdx.ix4 (0 : Fin 1) (0 : Fin 1) i s : S1x1x64x325.Idx) = ix4 0 0 i s from eq_ix4 _, Img.dv_apply (tiles m c t b), scale_apply, nums_codeM]
  unfold Attn.resDv
  simp only [sub_apply, iblk8_apply]
  rfl

/-! ## The output arrays -/

/-- The point of an image and a head, and the image's place in its group. -/
def point (b : Fin 48) (h : Fin 12) : Fin cfg0.N := ⟨h.val * 6 + b.val / 8, by show _ < 72; omega⟩
/-- An image's place in its group. -/
def place (b : Fin 48) : Fin 8 := ⟨b.val % 8, by omega⟩
/-- The image at its place in its point's group is itself. -/
theorem img_point (b : Fin 48) (h : Fin 12) : img (point b h) (place b) = b :=
  Fin.ext (by show 8 * ((h.val * 6 + b.val / 8) % 6) + b.val % 8 = b.val; omega)
/-- The head of a head's point is itself. -/
theorem head_point (b : Fin 48) (h : Fin 12) : head (point b h) = h :=
  Fin.ext (by show (h.val * 6 + b.val / 8) / 6 = h.val; omega)

/-- When the region is left the array of each window is what the proof data say (the array of codes, which three windows
    stage, as it was). -/
theorem exitArr (c : Dev nD) (w : Fin cfg0.W) :
    Pipeline.withArrays spec0 c (V0 m c) (fun w => (dats m 0 c).arrAt w cfg0.N) (Proc.devRef .tc (Pipeline.arrRef spec0 w)) = (dats m 0 c).arrAt w cfg0.N :=
  Pipeline.withArrays_arr_shared spec0 c (V0 m c) _ ((dats m 0 c).arrAt_sharedIn launch₀0.sharedIn (V0 m c) (A_eq m c) cfg0.N) w

/-- Distinct points write distinct blocks of window 9's array. -/
theorem idx_inj9 : ∀ t t' : Fin cfg0.N, win0_9.index t = win0_9.index t' → t = t' :=
  (by decide +kernel : ∀ t t' : Fin grid0.N, win0_9.index t = win0_9.index t' → t = t')
/-- The blocks window 9 writes at distinct points share no element. -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- The array after the run at an index. -/
theorem arr9_apply (c : Dev nD) (b : Fin 48) (h : Fin 12) (i : Fin 64) (s : Fin 325) :
    ((dats m 0 c).arrAt 9 cfg0.N : Vec Ideal S48x12x64x325 .bf16) (ix4 b h i s) = Attn.resDq (aK m c) (aD m c) (aV m c) (aN m c) (aPs m c) (aVs m c) b s h i := by
  have hb := congrFun ((dats m 0 c).read_blk_arrAt_eq_flushed 9 disjoint9 cfg0.N (point b h) (point b h).isLt (flush0_9 _)) (ix4 (place b) (0 : Fin 1) i s : S8x1x64x325.Idx)
  have hb' : (dats m 0 c).arrAt 9 cfg0.N (((cfg0.win 9).blk (point b h)).view.emb (ix4 (place b) (0 : Fin 1) i s : S8x1x64x325.Idx))
      = (dats m 0 c).after 9 (point b h) (ix4 (place b) (0 : Fin 1) i s : S8x1x64x325.Idx) := hb
  rw [emb9, after0_9, img_point, head_point] at hb'
  have hv := oblkDq_apply m c (point b h) (place b) i s
  rw [img_point, head_point] at hv
  exact hb'.trans hv

/-- The result at an index. -/
def out9 (c : Dev nD) : Vec Ideal S48x325x12x64 .bf16 := fun j => Attn.resDq (aK m c) (aD m c) (aV m c) (aN m c) (aPs m c) (aVs m c) (j 0) (j 1) (j 2) (j 3)

/-- The first result after the host's transpose is the queries' gradient. -/
theorem tail9 (c : Dev nD) :
    Pipeline.afterTail₀ cfgs (dats m) 0 (V0 m) [hostOps1] c main_v7 = out9 m c := by
  have h : Pipeline.afterTail₀ cfgs (dats m) 0 (V0 m) [hostOps1] c main_v7
      = transpose S48x325x12x64 [0, 3, 1, 2] ((dats m 0 c).arrAt 9 cfg0.N : Vec Ideal S48x12x64x325 .bf16) transposes_S48x12x64x325_S48x325x12x64_0_3_1_2 := by
    unfold Pipeline.afterTail₀
    simp only [hostOps1, List.flatten_cons, List.flatten_nil, List.append_nil, List.cons_append, List.nil_append]
    after_results_simp
    exact congrArg (fun x => transpose S48x325x12x64 [0, 3, 1, 2] x transposes_S48x12x64x325_S48x325x12x64_0_3_1_2) (exitArr m c 9)
  rw [h]
  funext j
  obtain ⟨b, s, h, i, rfl⟩ : ∃ (b : Fin 48) (s : Fin 325) (h : Fin 12) (i : Fin 64), j = ix4 b s h i := ⟨j 0, j 1, j 2, j 3, eq_ix4 _⟩
  rw [show transpose S48x325x12x64 [0, 3, 1, 2] ((dats m 0 c).arrAt 9 cfg0.N : Vec Ideal S48x12x64x325 .bf16) transposes_S48x12x64x325_S48x325x12x64_0_3_1_2 (ix4 b s h i)
    = ((dats m 0 c).arrAt 9 cfg0.N : Vec Ideal S48x12x64x325 .bf16) (ix4 b h i s) from by pointwise [], arr9_apply]
  rfl

/-- Distinct points write distinct blocks of window 10's array. -/
theorem idx_inj10 : ∀ t t' : Fin cfg0.N, win0_10.index t = win0_10.index t' → t = t' :=
  (by decide +kernel : ∀ t t' : Fin grid0.N, win0_10.index t = win0_10.index t' → t = t')
/-- The blocks window 10 writes at distinct points share no element. -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- The array after the run at an index. -/
theorem arr10_apply (c : Dev nD) (b : Fin 48) (h : Fin 12) (i : Fin 64) (s : Fin 325) :
    ((dats m 0 c).arrAt 10 cfg0.N : Vec Ideal S48x12x64x325 .bf16) (ix4 b h i s) = Attn.resDk (aQ m c) (aD m c) (aV m c) (aN m c) (aPs m c) (aVs m c) b s h i := by
  have hb := congrFun ((dats m 0 c).read_blk_arrAt_eq_flushed 10 disjoint10 cfg0.N (point b h) (point b h).isLt (flush0_10 _)) (ix4 (place b) (0 : Fin 1) i s : S8x1x64x325.Idx)
  have hb' : (dats m 0 c).arrAt 10 cfg0.N (((cfg0.win 10).blk (point b h)).view.emb (ix4 (place b) (0 : Fin 1) i s : S8x1x64x325.Idx))
      = (dats m 0 c).after 10 (point b h) (ix4 (place b) (0 : Fin 1) i s : S8x1x64x325.Idx) := hb
  rw [emb10, after0_10, img_point, head_point] at hb'
  have hv := oblkDk_apply m c (point b h) (place b) i s
  rw [img_point, head_point] at hv
  exact hb'.trans hv

/-- The result at an index. -/
def out10 (c : Dev nD) : Vec Ideal S48x325x12x64 .bf16 := fun j => Attn.resDk (aQ m c) (aD m c) (aV m c) (aN m c) (aPs m c) (aVs m c) (j 0) (j 1) (j 2) (j 3)

/-- The second result after the host's transpose is the keys' gradient. -/
theorem tail10 (c : Dev nD) :
    Pipeline.afterTail₀ cfgs (dats m) 0 (V0 m) [hostOps1] c main_v8 = out10 m c := by
  have h : Pipeline.afterTail₀ cfgs (dats m) 0 (V0 m) [hostOps1] c main_v8
      = transpose S48x325x12x64 [0, 3, 1, 2] ((dats m 0 c).arrAt 10 cfg0.N : Vec Ideal S48x12x64x325 .bf16) transposes_S48x12x64x325_S48x325x12x64_0_3_1_2 := by
    unfold Pipeline.afterTail₀
    simp only [hostOps1, List.flatten_cons, List.flatten_nil, List.append_nil, List.cons_append, List.nil_append]
    after_results_simp
    exact congrArg (fun x => transpose S48x325x12x64 [0, 3, 1, 2] x transposes_S48x12x64x325_S48x325x12x64_0_3_1_2) (exitArr m c 10)
  rw [h]
  funext j
  obtain ⟨b, s, h, i, rfl⟩ : ∃ (b : Fin 48) (s : Fin 325) (h : Fin 12) (i : Fin 64), j = ix4 b s h i := ⟨j 0, j 1, j 2, j 3, eq_ix4 _⟩
  rw [show transpose S48x325x12x64 [0, 3, 1, 2] ((dats m 0 c).arrAt 10 cfg0.N : Vec Ideal S48x12x64x325 .bf16) transposes_S48x12x64x325_S48x325x12x64_0_3_1_2 (ix4 b s h i)
    = ((dats m 0 c).arrAt 10 cfg0.N : Vec Ideal S48x12x64x325 .bf16) (ix4 b h i s) from by pointwise [], arr10_apply]
  rfl

/-- Distinct points write distinct blocks of window 11's array. -/
theorem idx_inj11 : ∀ t t' : Fin cfg0.N, win0_11.index t = win0_11.index t' → t = t' :=
  (by decide +kernel : ∀ t t' : Fin grid0.N, win0_11.index t = win0_11.index t' → t = t')
/-- The blocks window 11 writes at distinct points share no element. -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- The array after the run at an index. -/
theorem arr11_apply (c : Dev nD) (b : Fin 48) (h : Fin 12) (i : Fin 64) (s : Fin 325) :
    ((dats m 0 c).arrAt 11 cfg0.N : Vec Ideal S48x12x64x325 .bf16) (ix4 b h i s) = Attn.resDv (aD m c) (aN m c) (aPs m c) b s h i := by
  have hb := congrFun ((dats m 0 c).read_blk_arrAt_eq_flushed 11 disjoint11 cfg0.N (point b h) (point b h).isLt (flush0_11 _)) (ix4 (place b) (0 : Fin 1) i s : S8x1x64x325.Idx)
  have hb' : (dats m 0 c).arrAt 11 cfg0.N (((cfg0.win 11).blk (point b h)).view.emb (ix4 (place b) (0 : Fin 1) i s : S8x1x64x325.Idx))
      = (dats m 0 c).after 11 (point b h) (ix4 (place b) (0 : Fin 1) i s : S8x1x64x325.Idx) := hb
  rw [emb11, after0_11, img_point, head_point] at hb'
  have hv := oblkDv_apply m c (point b h) (place b) i s
  rw [img_point, head_point] at hv
  exact hb'.trans hv

/-- The result at an index. -/
def out11 (c : Dev nD) : Vec Ideal S48x325x12x64 .bf16 := fun j => Attn.resDv (aD m c) (aN m c) (aPs m c) (j 0) (j 1) (j 2) (j 3)

/-- The third result after the host's transpose is the values' gradient. -/
theorem tail11 (c : Dev nD) :
    Pipeline.afterTail₀ cfgs (dats m) 0 (V0 m) [hostOps1] c main_v9 = out11 m c := by
  have h : Pipeline.afterTail₀ cfgs (dats m) 0 (V0 m) [hostOps1] c main_v9
      = transpose S48x325x12x64 [0, 3, 1, 2] ((dats m 0 c).arrAt 11 cfg0.N : Vec Ideal S48x12x64x325 .bf16) transposes_S48x12x64x325_S48x325x12x64_0_3_1_2 := by
    unfold Pipeline.afterTail₀
    simp only [hostOps1, List.flatten_cons, List.flatten_nil, List.append_nil, List.cons_append, List.nil_append]
    after_results_simp
    exact congrArg (fun x => transpose S48x325x12x64 [0, 3, 1, 2] x transposes_S48x12x64x325_S48x325x12x64_0_3_1_2) (exitArr m c 11)
  rw [h]
  funext j
  obtain ⟨b, s, h, i, rfl⟩ : ∃ (b : Fin 48) (s : Fin 325) (h : Fin 12) (i : Fin 64), j = ix4 b s h i := ⟨j 0, j 1, j 2, j 3, eq_ix4 _⟩
  rw [show transpose S48x325x12x64 [0, 3, 1, 2] ((dats m 0 c).arrAt 11 cfg0.N : Vec Ideal S48x12x64x325 .bf16) transposes_S48x12x64x325_S48x325x12x64_0_3_1_2 (ix4 b s h i)
    = ((dats m 0 c).arrAt 11 cfg0.N : Vec Ideal S48x12x64x325 .bf16) (ix4 b h i s) from by pointwise [], arr11_apply]
  rfl

/-- THE RESULTS: every run ends with the three gradients, a function of the arguments, in the result arrays. -/
theorem results (ρ : Dev nD → PrngReg) : θ_run defs (onTc (τ := τ) (main (F := Ideal))) ⟨m, fun _ => 0, ρ⟩ (fun r => ∀ c : Dev nD,
      r.2.mem ((c.tc : Thread nD τ).loc main_v7) = out9 m c
      ∧ r.2.mem ((c.tc : Thread nD τ).loc main_v8) = out10 m c
      ∧ r.2.mem ((c.tc : Thread nD τ).loc main_v9) = out11 m c) :=
  (θ_run defs _ _).mono (fun _ h c => ⟨((h c).2 main_v7 (Pipeline.mem_restRefs_of main_v7 (by decide) (by decide))).trans (tail9 m c),
    ((h c).2 main_v8 (Pipeline.mem_restRefs_of main_v8 (by decide) (by decide))).trans (tail10 m c),
    ((h c).2 main_v9 (Pipeline.mem_restRefs_of main_v9 (by decide) (by decide))).trans (tail11 m c)⟩) (run_main m ρ)

end Cert.KernelIdeal.Gen

end
-- ==== Proof.ValueRI.lean ====
/- THE REFERENCE'S RESULTS. Its one kernel decodes the codes (every entry its number); the lines after it, read one operation
   at a time, are the gradients. -/
module

public import proofs.«01_k».proof.Proof.Gen.ReferenceIdeal.Read
public import proofs.«01_k».proof.Proof.Spec
public import Idealize.ShloMosaic.Lib.Pointwise

@[expose] public section

noncomputable section

namespace Cert.ReferenceIdeal.RefValue

open Cert.ReferenceIdeal Cert.ReferenceIdeal.Gen Cert.ReferenceIdeal.Value Cert.ReferenceIdeal.Read
open Idealize.ShloMosaic Idealize.ShloMosaic.TcCoe Idealize.SL.Sem
open Idealize.ShloMosaic.Pipeline (Dat Window)

variable (m : (ℓ : Loc nD τ sig) → Buf (Elt Ideal) ℓ) (ρ : Dev nD → PrngReg)

/-! ## The arguments by coordinates -/

/-- The queries. -/
def aQ (c : Dev nD) : Attn.Arr := fun b s h i => (m ((c : Thread nD τ).loc main_arg0) : Vec Ideal S48x325x12x64 .bf16) (ix4 b s h i)
/-- The keys. -/
def aK (c : Dev nD) : Attn.Arr := fun b s h i => (m ((c : Thread nD τ).loc main_arg1) : Vec Ideal S48x325x12x64 .bf16) (ix4 b s h i)
/-- The codes of the probabilities. -/
def aN (c : Dev nD) : Fin 48 → Fin 12 → Fin 325 → Fin 325 → BitVec 8 :=
  fun b h r l => (m ((c : Thread nD τ).loc main_arg2) : Vec Ideal S48x12x325x325 .i8) (ix4 b h r l)
/-- The scales of the probabilities. -/
def aPs (c : Dev nD) : Fin 12 → EReal := fun h => (m ((c : Thread nD τ).loc main_arg3) : Vec Ideal S12 .f32) (ix1 h)
/-- The codes of the values. -/
def aV (c : Dev nD) : Attn.Arr := fun b s h i => (m ((c : Thread nD τ).loc main_arg4) : Vec Ideal S48x325x12x64 .fp8e4m3) (ix4 b s h i)
/-- The scales of the values. -/
def aVs (c : Dev nD) : Fin 48 → Fin 12 → Fin 64 → EReal := fun b h i => (m ((c : Thread nD τ).loc main_arg5) : Vec Ideal S48x12x64 .f32) (ix3 b h i)
/-- The gradient of the output. -/
def aD (c : Dev nD) : Attn.Arr := fun b s h i => (m ((c : Thread nD τ).loc main_arg6) : Vec Ideal S48x325x12x64 .bf16) (ix4 b s h i)

/-! ## What the kernel leaves -/

/-- The one point of its grid. -/
abbrev t0 : Fin cfg0.N := ⟨0, by decide⟩

/-- Where window 0's block lies in its array. -/
theorem emb0 (z : S48x12x325x325.Idx) : ((cfg0.win 0).blk t0).view.emb z = z := by
  funext a; apply Fin.ext
  match a with
  | ⟨0, _⟩ => show win0_0.index t0 (0 : Fin 4) * 48 + 1 * (z 0).val = (z 0).val; have : win0_0.index t0 (0 : Fin 4) = 0 := rfl; omega
  | ⟨1, _⟩ => show win0_0.index t0 (1 : Fin 4) * 12 + 1 * (z 1).val = (z 1).val; have : win0_0.index t0 (1 : Fin 4) = 0 := rfl; omega
  | ⟨2, _⟩ => show win0_0.index t0 (2 : Fin 4) * 325 + 1 * (z 2).val = (z 2).val; have : win0_0.index t0 (2 : Fin 4) = 0 := rfl; omega
  | ⟨3, _⟩ => show win0_0.index t0 (3 : Fin 4) * 325 + 1 * (z 3).val = (z 3).val; have : win0_0.index t0 (3 : Fin 4) = 0 := rfl; omega
/-- Where window 2's block lies in its array. -/
theorem emb2 (z : S48x12x325x325.Idx) : ((cfg0.win 2).blk t0).view.emb z = z := by
  funext a; apply Fin.ext
  match a with
  | ⟨0, _⟩ => show win0_2.index t0 (0 : Fin 4) * 48 + 1 * (z 0).val = (z 0).val; have : win0_2.index t0 (0 : Fin 4) = 0 := rfl; omega
  | ⟨1, _⟩ => show win0_2.index t0 (1 : Fin 4) * 12 + 1 * (z 1).val = (z 1).val; have : win0_2.index t0 (1 : Fin 4) = 0 := rfl; omega
  | ⟨2, _⟩ => show win0_2.index t0 (2 : Fin 4) * 325 + 1 * (z 2).val = (z 2).val; have : win0_2.index t0 (2 : Fin 4) = 0 := rfl; omega
  | ⟨3, _⟩ => show win0_2.index t0 (3 : Fin 4) * 325 + 1 * (z 3).val = (z 3).val; have : win0_2.index t0 (3 : Fin 4) = 0 := rfl; omega
/-- Where window 3's block lies in its array. -/
theorem emb3 (z : S48x12x325x325.Idx) : ((cfg0.win 3).blk t0).view.emb z = z := by
  funext a; apply Fin.ext
  match a with
  | ⟨0, _⟩ => show win0_3.index t0 (0 : Fin 4) * 48 + 1 * (z 0).val = (z 0).val; have : win0_3.index t0 (0 : Fin 4) = 0 := rfl; omega
  | ⟨1, _⟩ => show win0_3.index t0 (1 : Fin 4) * 12 + 1 * (z 1).val = (z 1).val; have : win0_3.index t0 (1 : Fin 4) = 0 := rfl; omega
  | ⟨2, _⟩ => show win0_3.index t0 (2 : Fin 4) * 325 + 1 * (z 2).val = (z 2).val; have : win0_3.index t0 (2 : Fin 4) = 0 := rfl; omega
  | ⟨3, _⟩ => show win0_3.index t0 (3 : Fin 4) * 325 + 1 * (z 3).val = (z 3).val; have : win0_3.index t0 (3 : Fin 4) = 0 := rfl; omega
/-- Where window 1's block lies in its array. -/
theorem emb1 (z : S48x325x12x64.Idx) : ((cfg0.win 1).blk t0).view.emb z = z := by
  funext a; apply Fin.ext
  match a with
  | ⟨0, _⟩ => show win0_1.index t0 (0 : Fin 4) * 48 + 1 * (z 0).val = (z 0).val; have : win0_1.index t0 (0 : Fin 4) = 0 := rfl; omega
  | ⟨1, _⟩ => show win0_1.index t0 (1 : Fin 4) * 325 + 1 * (z 1).val = (z 1).val; have : win0_1.index t0 (1 : Fin 4) = 0 := rfl; omega
  | ⟨2, _⟩ => show win0_1.index t0 (2 : Fin 4) * 12 + 1 * (z 2).val = (z 2).val; have : win0_1.index t0 (2 : Fin 4) = 0 := rfl; omega
  | ⟨3, _⟩ => show win0_1.index t0 (3 : Fin 4) * 64 + 1 * (z 3).val = (z 3).val; have : win0_1.index t0 (3 : Fin 4) = 0 := rfl; omega
/-- Where window 4's block lies in its array. -/
theorem emb4 (z : S48x325x12x64.Idx) : ((cfg0.win 4).blk t0).view.emb z = z := by
  funext a; apply Fin.ext
  match a with
  | ⟨0, _⟩ => show win0_4.index t0 (0 : Fin 4) * 48 + 1 * (z 0).val = (z 0).val; have : win0_4.index t0 (0 : Fin 4) = 0 := rfl; omega
  | ⟨1, _⟩ => show win0_4.index t0 (1 : Fin 4) * 325 + 1 * (z 1).val = (z 1).val; have : win0_4.index t0 (1 : Fin 4) = 0 := rfl; omega
  | ⟨2, _⟩ => show win0_4.index t0 (2 : Fin 4) * 12 + 1 * (z 2).val = (z 2).val; have : win0_4.index t0 (2 : Fin 4) = 0 := rfl; omega
  | ⟨3, _⟩ => show win0_4.index t0 (3 : Fin 4) * 64 + 1 * (z 3).val = (z 3).val; have : win0_4.index t0 (3 : Fin 4) = 0 := rfl; omega

/-- Input window 0's block at an index is its argument there. -/
theorem iblk0_apply (c : Dev nD) (z : S48x12x325x325.Idx) :
    (iblk m c 0 t0 : Vec Ideal S48x12x325x325 .i8) z = (m ((c : Thread nD τ).loc main_arg2) : Vec Ideal S48x12x325x325 .i8) z := by
  show V m c main_arg2 (((cfg0.win 0).blk t0).view.emb z) = _
  rw [emb0]; rfl
/-- Input window 1's block at an index is its argument there. -/
theorem iblk1_apply (c : Dev nD) (z : S48x325x12x64.Idx) :
    (iblk m c 1 t0 : Vec Ideal S48x325x12x64 .fp8e4m3) z = (m ((c : Thread nD τ).loc main_arg4) : Vec Ideal S48x325x12x64 .fp8e4m3) z := by
  show V m c main_arg4 (((cfg0.win 1).blk t0).view.emb z) = _
  rw [emb1]; rfl

/-- The grid has one point. -/
theorem one_point (t t' : Fin cfg0.N) : t = t' := Fin.ext (by have h : t.val < 1 := t.isLt; have h' : t'.val < 1 := t'.isLt; omega)

/-- The first output at an index: the code's number. -/
theorem out0_2_apply (x0 : Vec Ideal S48x12x325x325 .i8) (x1 : Vec Ideal S48x325x12x64 .fp8e4m3) (z : S48x12x325x325.Idx) :
    (out0_2 x0 x1 z : EReal) = Attn.byte (x0 z) := by
  unfold out0_2
  have h0 : (![0, 0, 0, 0] : Fin 4 → Nat) = fun _ => 0 := by decide
  rw [View.canon_unit_zero h0, View.ld_unit_zero h0]
  rfl
/-- The second output at an index: the code's number. -/
theorem out0_3_apply (x0 : Vec Ideal S48x12x325x325 .i8) (x1 : Vec Ideal S48x325x12x64 .fp8e4m3) (z : S48x12x325x325.Idx) :
    (out0_3 x0 x1 z : EReal) = Attn.byte (x0 z) := by
  unfold out0_3
  have h0 : (![0, 0, 0, 0] : Fin 4 → Nat) = fun _ => 0 := by decide
  rw [View.canon_unit_zero h0, View.ld_unit_zero h0]
  rfl
/-- The third output at an index: the value's code, unchanged. -/
theorem out0_4_apply (x0 : Vec Ideal S48x12x325x325 .i8) (x1 : Vec Ideal S48x325x12x64 .fp8e4m3) (z : S48x325x12x64.Idx) :
    (out0_4 x0 x1 z : EReal) = x1 z := by
  unfold out0_4
  have h0 : (![0, 0, 0, 0] : Fin 4 → Nat) = fun _ => 0 := by decide
  rw [View.canon_unit_zero h0, View.ld_unit_zero h0]
  rfl

/-- The codes at the accumulations' width, -/
theorem reg0_apply (c : Dev nD) (z : S48x12x325x325.Idx) :
    ((reg_main_v0_0 m c : Vec Ideal S48x12x325x325 .f32) z : EReal) = Attn.byte ((m ((c : Thread nD τ).loc main_arg2) : Vec Ideal S48x12x325x325 .i8) z) := by
  have h := congrFun ((dats m 0 c).read_blk_arrAt_eq_flushed 2 (fun t t' _ _ hne => absurd (one_point t t') hne) cfg0.N t0 t0.isLt (by decide)) z
  have h' : (dats m 0 c).arrAt 2 cfg0.N (((cfg0.win 2).blk t0).view.emb z) = (dats m 0 c).after 2 t0 z := h
  rw [emb2, after0_2] at h'
  exact h'.trans ((out0_2_apply _ _ z).trans (congrArg Attn.byte (iblk0_apply m c z)))
/-- at the products' width, -/
theorem reg1_apply (c : Dev nD) (z : S48x12x325x325.Idx) :
    ((reg_main_v0_1 m c : Vec Ideal S48x12x325x325 .bf16) z : EReal) = Attn.byte ((m ((c : Thread nD τ).loc main_arg2) : Vec Ideal S48x12x325x325 .i8) z) := by
  have h := congrFun ((dats m 0 c).read_blk_arrAt_eq_flushed 3 (fun t t' _ _ hne => absurd (one_point t t') hne) cfg0.N t0 t0.isLt (by decide)) z
  have h' : (dats m 0 c).arrAt 3 cfg0.N (((cfg0.win 3).blk t0).view.emb z) = (dats m 0 c).after 3 t0 z := h
  rw [emb3, after0_3] at h'
  exact h'.trans ((out0_3_apply _ _ z).trans (congrArg Attn.byte (iblk0_apply m c z)))
/-- and the values' codes. -/
theorem reg2_apply (c : Dev nD) (z : S48x325x12x64.Idx) :
    ((reg_main_v0_2 m c : Vec Ideal S48x325x12x64 .bf16) z : EReal) = (m ((c : Thread nD τ).loc main_arg4) : Vec Ideal S48x325x12x64 .fp8e4m3) z := by
  have h := congrFun ((dats m 0 c).read_blk_arrAt_eq_flushed 4 (fun t t' _ _ hne => absurd (one_point t t') hne) cfg0.N t0 t0.isLt (by decide)) z
  have h' : (dats m 0 c).arrAt 4 cfg0.N (((cfg0.win 4).blk t0).view.emb z) = (dats m 0 c).after 4 t0 z := h
  rw [emb4, after0_4] at h'
  exact h'.trans ((out0_4_apply _ _ z).trans (iblk1_apply m c z))

/-! ## The lines after it, at an index -/

section Lines

variable (x0 x1 : Vec Ideal S48x325x12x64 .bf16) (x3 : Vec Ideal S12 .f32) (x5 : Vec Ideal S48x12x64 .f32) (x6 : Vec Ideal S48x325x12x64 .bf16)
  (r0 : Vec Ideal S48x12x325x325 .f32) (r1 : Vec Ideal S48x12x325x325 .bf16) (r2 : Vec Ideal S48x325x12x64 .bf16)
  (b : Fin 48) (h : Fin 12) (s r l : Fin 325) (i : Fin 64)

/-- One probability: its code times its head's scale. -/
def P : Attn.Mat 325 325 := fun r l => r0 (ix4 b h r l) * x3 (ix1 h)
/-- One dequantized value: its code times its scale. -/
def V' : Attn.Mat 325 64 := fun l i => r2 (ix4 b l h i) * x5 (ix3 b h i)
/-- One head's rows of the output's gradient. -/
def D : Attn.Mat 325 64 := fun r i => x6 (ix4 b r h i)

/-- The dequantized probabilities at an index. -/
theorem v3_at : (val_main_v3 (F := Ideal) x3 r0 (ix4 b h r l) : EReal) = P x3 r0 b h r l := by
  rw [val_main_v3_apply, val_main_v2_apply, val_main_v1_apply,
    show idx_main_v1 (idx_main_v2 (ix4 b h r l)) = ix1 h from eq_ix1 _]
  rfl

/-- The dequantized values at an index. -/
theorem v12_at : (val_main_v12 (F := Ideal) x5 r2 (ix4 b l h i) : EReal) = V' x5 r2 b h l i := by
  rw [val_main_v12_apply, val_main_v11_apply, val_main_v10_apply, val_main_v9_apply,
    show idx_main_v10 (idx_main_v11 (ix4 b l h i)) = ix3 b h i from eq_ix3 _]
  rfl

/-- The gradient of the probabilities at an index. -/
theorem v13_at : (val_main_v13 (F := Ideal) x5 x6 r2 (ix4 b h r l) : EReal) = Attn.dp (D x6 b h) (V' x5 r2 b h) r l := by
  rw [val_main_v13_apply]
  refine Finset.sum_congr rfl fun k _ => ?_
  rw [show lidx_main_v13 (ix4 b h r l) k = ix4 b r h k from eq_ix4 _, show ridx_main_v13 (ix4 b h r l) k = ix4 b l h k from eq_ix4 _, v12_at]
  rfl

/-- The row sums of that gradient times the probabilities. -/
theorem v15_at : (val_main_v15 (F := Ideal) x3 x5 x6 r0 r2 (ix3 b h r) : EReal)
    = ∑ j, Attn.dp (D x6 b h) (V' x5 r2 b h) r j * P x3 r0 b h r j := by
  rw [val_main_v15_apply, val_main_cst_apply]
  have hz : (FloatOps.ofBits (F := Ideal) .f32 0x00000000#32 : EReal) = 0 := Ideal.ofBits_zero _
  refine (congrArg (· + _) hz).trans ((zero_add _).trans (Finset.sum_congr rfl fun j _ => ?_))
  rw [show idx_main_v15 (ix3 b h r) j = ix4 b h r j from eq_ix4 _, val_main_v14_apply, v13_at, v3_at]
  rfl

/-- One score's gradient. -/
theorem v20_at : (val_main_v20 (F := Ideal) x3 x5 x6 r0 r2 (ix4 b h r l) : EReal)
    = Attn.ds (P x3 r0 b h) (Attn.dp (D x6 b h) (V' x5 r2 b h)) r l := by
  rw [val_main_v20_apply, val_main_v19_apply, val_main_v18_apply, val_main_v17_apply, val_main_v16_apply,
    show idx_main_v16 (idx_main_v17 (ix4 b h r l)) = ix3 b h r from eq_ix3 _, v15_at, v13_at, v3_at]
  rfl

/-- The first result at an index. -/
theorem v29_at : (val_main_v29 (F := Ideal) x1 x3 x5 x6 r0 r2 (ix4 b s h i) : EReal)
    = Attn.dq (fun l i => x1 (ix4 b l h i)) (D x6 b h) (V' x5 r2 b h) (P x3 r0 b h) s i := by
  rw [val_main_v29_apply, val_main_v24_apply, val_main_v23_apply, val_main_v22_apply, val_main_cst_0_apply,
    show idx_main_v22 (ix4 b s h i) = ix4 b h i s from eq_ix4 _]
  refine (mul_comm Attn.eighth _).trans (congrArg (· * Attn.eighth) ?_)
  rw [val_main_v21_apply]
  refine Finset.sum_congr rfl fun k _ => ?_
  rw [show lidx_main_v21 (ix4 b h i s) k = ix4 b k h i from eq_ix4 _, show ridx_main_v21 (ix4 b h i s) k = ix4 b h s k from eq_ix4 _, v20_at]

/-- The second result at an index. -/
theorem v30_at : (val_main_v30 (F := Ideal) x0 x3 x5 x6 r0 r2 (ix4 b s h i) : EReal)
    = Attn.dk (fun r i => x0 (ix4 b r h i)) (D x6 b h) (V' x5 r2 b h) (P x3 r0 b h) s i := by
  rw [val_main_v30_apply, val_main_v28_apply, val_main_v27_apply, val_main_v26_apply, val_main_cst_1_apply,
    show idx_main_v26 (ix4 b s h i) = ix4 b h i s from eq_ix4 _]
  refine (mul_comm Attn.eighth _).trans (congrArg (· * Attn.eighth) ?_)
  rw [val_main_v25_apply]
  refine Finset.sum_congr rfl fun k _ => ?_
  rw [show lidx_main_v25 (ix4 b h i s) k = ix4 b k h i from eq_ix4 _, show ridx_main_v25 (ix4 b h i s) k = ix4 b h k s from eq_ix4 _, v20_at]

/-- The third result at an index. -/
theorem v31_at : (val_main_v31 (F := Ideal) x3 x6 r1 (ix4 b s h i) : EReal)
    = Attn.dv (D x6 b h) (fun r l => r1 (ix4 b h r l)) (x3 (ix1 h)) s i := by
  rw [val_main_v31_apply, val_main_v8_apply, val_main_v7_apply, val_main_v6_apply, val_main_v5_apply,
    show idx_main_v5 (ix4 b s h i) = ix4 b h i s from eq_ix4 _, show idx_main_v6 (idx_main_v7 (ix4 b s h i)) = ix1 h from eq_ix1 _]
  refine congrArg (· * (x3 (ix1 h) : EReal)) ?_
  rw [val_main_v4_apply]
  refine Finset.sum_congr rfl fun k _ => ?_
  rw [show lidx_main_v4 (ix4 b h i s) k = ix4 b k h i from eq_ix4 _, show ridx_main_v4 (ix4 b h i s) k = ix4 b h k s from eq_ix4 _]
  rfl

end Lines

/-! ## The results as functions of the arguments -/

/-- The probabilities as a function of the arguments. -/
theorem P_eq (c : Dev nD) (b : Fin 48) (h : Fin 12) :
    P (m ((c : Thread nD τ).loc main_arg3)) (reg_main_v0_0 m c) b h = fun r l => Attn.byte (aN m c b h r l) * aPs m c h := by
  funext r l
  exact congrArg (· * (aPs m c h)) (reg0_apply m c (ix4 b h r l))
/-- The dequantized values as a function of the arguments. -/
theorem V'_eq (c : Dev nD) (b : Fin 48) (h : Fin 12) :
    V' (m ((c : Thread nD τ).loc main_arg5)) (reg_main_v0_2 m c) b h = fun l i => aV m c b l h i * aVs m c b h i := by
  funext l i
  exact congrArg (· * (aVs m c b h i)) (reg2_apply m c (ix4 b l h i))

/-- The queries' gradient. -/
theorem dq_eq (c : Dev nD) :
    (val_main_v29 (F := Ideal) (m ((c : Thread nD τ).loc main_arg1)) (m ((c : Thread nD τ).loc main_arg3)) (m ((c : Thread nD τ).loc main_arg5))
      (m ((c : Thread nD τ).loc main_arg6)) (reg_main_v0_0 m c) (reg_main_v0_2 m c) : Vec Ideal S48x325x12x64 .bf16)
    = fun j => Attn.resDq (aK m c) (aD m c) (aV m c) (aN m c) (aPs m c) (aVs m c) (j 0) (j 1) (j 2) (j 3) := by
  funext j
  obtain ⟨b, s, h, i, rfl⟩ : ∃ (b : Fin 48) (s : Fin 325) (h : Fin 12) (i : Fin 64), j = ix4 b s h i := ⟨j 0, j 1, j 2, j 3, eq_ix4 _⟩
  refine (v29_at _ _ _ _ _ _ b h s i).trans ?_
  rw [P_eq, V'_eq]
  rfl
/-- The keys' gradient. -/
theorem dk_eq (c : Dev nD) :
    (val_main_v30 (F := Ideal) (m ((c : Thread nD τ).loc main_arg0)) (m ((c : Thread nD τ).loc main_arg3)) (m ((c : Thread nD τ).loc main_arg5))
      (m ((c : Thread nD τ).loc main_arg6)) (reg_main_v0_0 m c) (reg_main_v0_2 m c) : Vec Ideal S48x325x12x64 .bf16)
    = fun j => Attn.resDk (aQ m c) (aD m c) (aV m c) (aN m c) (aPs m c) (aVs m c) (j 0) (j 1) (j 2) (j 3) := by
  funext j
  obtain ⟨b, s, h, i, rfl⟩ : ∃ (b : Fin 48) (s : Fin 325) (h : Fin 12) (i : Fin 64), j = ix4 b s h i := ⟨j 0, j 1, j 2, j 3, eq_ix4 _⟩
  refine (v30_at _ _ _ _ _ _ b h s i).trans ?_
  rw [P_eq, V'_eq]
  rfl
/-- The values' gradient. -/
theorem dv_eq (c : Dev nD) :
    (val_main_v31 (F := Ideal) (m ((c : Thread nD τ).loc main_arg3)) (m ((c : Thread nD τ).loc main_arg6)) (reg_main_v0_1 m c) : Vec Ideal S48x325x12x64 .bf16)
    = fun j => Attn.resDv (aD m c) (aN m c) (aPs m c) (j 0) (j 1) (j 2) (j 3) := by
  funext j
  obtain ⟨b, s, h, i, rfl⟩ : ∃ (b : Fin 48) (s : Fin 325) (h : Fin 12) (i : Fin 64), j = ix4 b s h i := ⟨j 0, j 1, j 2, j 3, eq_ix4 _⟩
  refine (v31_at _ _ _ b h s i).trans ?_
  rw [show (fun r l => ((reg_main_v0_1 m c : Vec Ideal S48x12x325x325 .bf16) (ix4 b h r l) : EReal)) = fun r l => Attn.byte (aN m c b h r l) from
    funext fun r => funext fun l => reg1_apply m c (ix4 b h r l)]
  rfl

/-- THE RESULTS: every run ends with the three gradients, a function of the arguments, in the result arrays, and the arguments
    as they were. -/
theorem results : θ_run defs (onTc (τ := τ) (main (F := Ideal))) ⟨m, fun _ => 0, ρ⟩ (fun r => ∀ c : Dev nD,
      r.2.mem ((c.tc : Thread nD τ).loc main_v29)
        = (fun j => Attn.resDq (aK m c) (aD m c) (aV m c) (aN m c) (aPs m c) (aVs m c) (j 0) (j 1) (j 2) (j 3) : Vec Ideal S48x325x12x64 .bf16)
      ∧ r.2.mem ((c.tc : Thread nD τ).loc main_v30)
        = (fun j => Attn.resDk (aQ m c) (aD m c) (aV m c) (aN m c) (aPs m c) (aVs m c) (j 0) (j 1) (j 2) (j 3) : Vec Ideal S48x325x12x64 .bf16)
      ∧ r.2.mem ((c.tc : Thread nD τ).loc main_v31)
        = (fun j => Attn.resDv (aD m c) (aN m c) (aPs m c) (j 0) (j 1) (j 2) (j 3) : Vec Ideal S48x325x12x64 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (dq_eq m c), (h c).2.1.trans (dk_eq m c), (h c).2.2.1.trans (dv_eq m c), (h c).2.2.2⟩)
    (Value.run m ρ)

end Cert.ReferenceIdeal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.FrameK
public import proofs.«01_k».proof.Proof.FrameKI
public import proofs.«01_k».proof.Proof.ValueKI
public import proofs.«01_k».proof.Proof.ValueRI
public import Idealize.ShloMosaic.Adequacy
public import Idealize.ShloMosaic.Init

@[expose] public section

noncomputable section

namespace Cert.Proof

open Idealize.ShloMosaic Idealize.SL.Sem Cert.Kernel

/-- The two programs' results from equal arguments are the same gradients. -/
theorem algebraic : @algebraic_KernelIdeal_ReferenceIdeal Cert.KernelIdeal.Gen.facts Cert.ReferenceIdeal.Gen.facts := by
  intro m g m' g' _ hargs
  refine ⟨fun c => Cert.KernelIdeal.Gen.out9 m c, fun c => Cert.KernelIdeal.Gen.out10 m c, fun c => Cert.KernelIdeal.Gen.out11 m c, ?_, ?_⟩
  · exact (θ_run _ _ _).mono (fun _ h c => ⟨(h.1 c).1, (h.1 c).2.1, (h.1 c).2.2, h.2 c⟩)
      (θ_run_and (Cert.KernelIdeal.Gen.results m g) (Cert.KernelIdeal.Gen.unchanged m g))
  · refine (θ_run _ _ _).mono (fun _ h c => ?_) (Cert.ReferenceIdeal.RefValue.results m' g')
    obtain ⟨e0, e1, e2, e3, e4, e5, e6⟩ := hargs c
    have hq : Cert.ReferenceIdeal.RefValue.aQ m' c = Cert.KernelIdeal.Gen.aQ m c :=
      funext fun b => funext fun s => funext fun h => funext fun i => congrFun e0 (ix4 b s h i)
    have hk : Cert.ReferenceIdeal.RefValue.aK m' c = Cert.KernelIdeal.Gen.aK m c :=
      funext fun b => funext fun s => funext fun h => funext fun i => congrFun e1 (ix4 b s h i)
    have hn : Cert.ReferenceIdeal.RefValue.aN m' c = Cert.KernelIdeal.Gen.aN m c :=
      funext fun b => funext fun h => funext fun r => funext fun l => congrFun e2 (ix4 b h r l)
    have hps : Cert.ReferenceIdeal.RefValue.aPs m' c = Cert.KernelIdeal.Gen.aPs m c :=
      funext fun h => congrFun e3 (ix1 h)
    have hv : Cert.ReferenceIdeal.RefValue.aV m' c = Cert.KernelIdeal.Gen.aV m c :=
      funext fun b => funext fun s => funext fun h => funext fun i => congrFun e4 (ix4 b s h i)
    have hvs : Cert.ReferenceIdeal.RefValue.aVs m' c = Cert.KernelIdeal.Gen.aVs m c :=
      funext fun b => funext fun h => funext fun i => congrFun e5 (ix3 b h i)
    have hd : Cert.ReferenceIdeal.RefValue.aD m' c = Cert.KernelIdeal.Gen.aD m c :=
      funext fun b => funext fun s => funext fun h => funext fun i => congrFun e6 (ix4 b s h i)
    have h' := h c
    rw [hq, hk, hn, hps, hv, hvs, hd] at h'
    exact h'

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
